-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S16 : Shape := ⟨1, ![16]⟩
abbrev S_ : Shape := ⟨0, ![]⟩
abbrev S1 : Shape := ⟨1, ![1]⟩
abbrev S3 : Shape := ⟨1, ![3]⟩
abbrev S4096x8192 : Shape := ⟨2, ![4096, 8192]⟩
abbrev S2x256x8192 : Shape := ⟨3, ![2, 256, 8192]⟩
abbrev S2 : Shape := ⟨1, ![2]⟩
abbrev S256x256 : Shape := ⟨2, ![256, 256]⟩
abbrev S1x256x8192 : Shape := ⟨3, ![1, 256, 8192]⟩

abbrev nBuf : Space → Nat
  | .hbm => 74
  | .vmem => 3
  | .smem => 1
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S16, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i1⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i1⟩
  | .hbm, ⟨58, _⟩ => ⟨S_, .i1⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S1, .i32⟩
  | .hbm, ⟨72, _⟩ => ⟨S3, .i32⟩
  | .hbm, ⟨73, _⟩ => ⟨S4096x8192, .f32⟩
  | .local _ .vmem, ⟨0, _⟩ => ⟨S4096x256, .f32⟩
  | .local _ .vmem, ⟨1, _⟩ => ⟨S256x8192, .f32⟩
  | .local _ .vmem, ⟨2, _⟩ => ⟨S2x256x8192, .f32⟩
  | .local _ .smem, ⟨0, _⟩ => ⟨S3, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 2 → Bool
  | ⟨0, _⟩ => true
  | ⟨1, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 2 8 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c1_i32_4 : BitVec 32 := 1#32
  let v8 : BitVec 32 := Scalar.subi v0 c1_i32_4
  let c16_i32 : BitVec 32 := 16#32
  let c0_i32_5 : BitVec 32 := 0#32
  let v9 : BitVec 1 := Scalar.cmpi .eq c16_i32 c0_i32_5
  let c1_i32_6 : BitVec 32 := 1#32
  let v10 : BitVec 32 := Scalar.select v9 c1_i32_6 c16_i32
  let v11 : BitVec 32 := Scalar.remsi v8 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c256_i32 : BitVec 32 := 256#32
  let v19 : BitVec 32 := Scalar.muli v18 c256_i32
  let v20 : Index := Scalar.indexCast v19
  let c0_10 : Index := 0#32
  ![v20.toNat, 0]

def k0_dev3 (v2 : BitVec 32) : Nat :=
  let c0_i32_21 : BitVec 32 := 0#32
  let c1_i32_20 : BitVec 32 := 1#32
  let v29 : BitVec 32 := Scalar.muli v2 c1_i32_20
  let v30 : BitVec 32 := Scalar.addi c0_i32_21 v29
  v30.toNat
def k0_off2 (v0 : BitVec 32) (c0_i32_46 : BitVec 32) : Fin 2 → Nat :=
  let c2_i32_45 : BitVec 32 := 2#32
  let v53 : BitVec 32 := Scalar.subi v0 c2_i32_45
  let v54 : BitVec 32 := Scalar.subi v53 c0_i32_46
  let c16_i32_47 : BitVec 32 := 16#32
  let c0_i32_48 : BitVec 32 := 0#32
  let v55 : BitVec 1 := Scalar.cmpi .eq c16_i32_47 c0_i32_48
  let c1_i32_49 : BitVec 32 := 1#32
  let v56 : BitVec 32 := Scalar.select v55 c1_i32_49 c16_i32_47
  let v57 : BitVec 32 := Scalar.remsi v54 v56
  let c0_i32_51 : BitVec 32 := 0#32
  let v59 : BitVec 1 := Scalar.cmpi .slt v57 c0_i32_51
  let c0_i32_52 : BitVec 32 := 0#32
  let v60 : BitVec 1 := Scalar.cmpi .slt v56 c0_i32_52
  let v61 : BitVec 1 := Scalar.xori v59 v60
  let c0_i32_50 : BitVec 32 := 0#32
  let v58 : BitVec 1 := Scalar.cmpi .ne v57 c0_i32_50
  let v62 : BitVec 1 := Scalar.andi v61 v58
  let v63 : BitVec 32 := Scalar.addi v57 v56
  let v64 : BitVec 32 := Scalar.select v62 v63 v57
  let c256_i32_56 : BitVec 32 := 256#32
  let v67 : BitVec 32 := Scalar.muli v64 c256_i32_56
  let v68 : Index := Scalar.indexCast v67
  let c0_57 : Index := 0#32
  ![v68.toNat, 0]
def k0_dev4 (v1 : BitVec 32) : Nat :=
  let c0_i32_66 : BitVec 32 := 0#32
  let c1_i32_65 : BitVec 32 := 1#32
  let v78 : BitVec 32 := Scalar.muli v1 c1_i32_65
  let v79 : BitVec 32 := Scalar.addi c0_i32_66 v78
  v79.toNat
def k0_dev5 (v2 : BitVec 32) : Nat :=
  let c0_i32_74 : BitVec 32 := 0#32
  let c1_i32_73 : BitVec 32 := 1#32
  let v80 : BitVec 32 := Scalar.muli v2 c1_i32_73
  let v81 : BitVec 32 := Scalar.addi c0_i32_74 v80
  v81.toNat
def k0_dev6 (v1 : BitVec 32) : Nat :=
  let c0_i32_119 : BitVec 32 := 0#32
  let c1_i32_118 : BitVec 32 := 1#32
  let v129 : BitVec 32 := Scalar.muli v1 c1_i32_118
  let v130 : BitVec 32 := Scalar.addi c0_i32_119 v129
  v130.toNat
def k0_dev7 (v2 : BitVec 32) : Nat :=
  let c0_i32_127 : BitVec 32 := 0#32
  let c1_i32_126 : BitVec 32 := 1#32
  let v131 : BitVec 32 := Scalar.muli v2 c1_i32_126
  let v132 : BitVec 32 := Scalar.addi c0_i32_127 v131
  v132.toNat
def k0_dev8 (v1 : BitVec 32) : Nat :=
  let c0_i32_172 : BitVec 32 := 0#32
  let c1_i32_171 : BitVec 32 := 1#32
  let v180 : BitVec 32 := Scalar.muli v1 c1_i32_171
  let v181 : BitVec 32 := Scalar.addi c0_i32_172 v180
  v181.toNat
def k0_dev9 (v2 : BitVec 32) : Nat :=
  let c0_i32_180 : BitVec 32 := 0#32
  let c1_i32_179 : BitVec 32 := 1#32
  let v182 : BitVec 32 := Scalar.muli v2 c1_i32_179
  let v183 : BitVec 32 := Scalar.addi c0_i32_180 v182
  v183.toNat
def k0_dev10 (v1 : BitVec 32) : Nat :=
  let c0_i32_224 : BitVec 32 := 0#32
  let c1_i32_223 : BitVec 32 := 1#32
  let v231 : BitVec 32 := Scalar.muli v1 c1_i32_223
  let v232 : BitVec 32 := Scalar.addi c0_i32_224 v231
  v232.toNat
def k0_dev11 (v2 : BitVec 32) : Nat :=
  let c0_i32_232 : BitVec 32 := 0#32
  let c1_i32_231 : BitVec 32 := 1#32
  let v233 : BitVec 32 := Scalar.muli v2 c1_i32_231
  let v234 : BitVec 32 := Scalar.addi c0_i32_232 v233
  v234.toNat
def k0_dev12 (v1 : BitVec 32) : Nat :=
  let c0_i32_276 : BitVec 32 := 0#32
  let c1_i32_275 : BitVec 32 := 1#32
  let v282 : BitVec 32 := Scalar.muli v1 c1_i32_275
  let v283 : BitVec 32 := Scalar.addi c0_i32_276 v282
  v283.toNat
def k0_dev13 (v2 : BitVec 32) : Nat :=
  let c0_i32_284 : BitVec 32 := 0#32
  let c1_i32_283 : BitVec 32 := 1#32
  let v284 : BitVec 32 := Scalar.muli v2 c1_i32_283
  let v285 : BitVec 32 := Scalar.addi c0_i32_284 v284
  v285.toNat
def k0_dev14 (v1 : BitVec 32) : Nat :=
  let c0_i32_328 : BitVec 32 := 0#32
  let c1_i32_327 : BitVec 32 := 1#32
  let v333 : BitVec 32 := Scalar.muli v1 c1_i32_327
  let v334 : BitVec 32 := Scalar.addi c0_i32_328 v333
  v334.toNat
def k0_dev15 (v2 : BitVec 32) : Nat :=
  let c0_i32_336 : BitVec 32 := 0#32
  let c1_i32_335 : BitVec 32 := 1#32
  let v335 : BitVec 32 := Scalar.muli v2 c1_i32_335
  let v336 : BitVec 32 := Scalar.addi c0_i32_336 v335
  v336.toNat
def k0_dev16 (v1 : BitVec 32) : Nat :=
  let c0_i32_380 : BitVec 32 := 0#32
  let c1_i32_379 : BitVec 32 := 1#32
  let v384 : BitVec 32 := Scalar.muli v1 c1_i32_379
  let v385 : BitVec 32 := Scalar.addi c0_i32_380 v384
  v385.toNat
def k0_dev17 (v2 : BitVec 32) : Nat :=
  let c0_i32_388 : BitVec 32 := 0#32
  let c1_i32_387 : BitVec 32 := 1#32
  let v386 : BitVec 32 := Scalar.muli v2 c1_i32_387
  let v387 : BitVec 32 := Scalar.addi c0_i32_388 v386
  v387.toNat
def k0_dev18 (v1 : BitVec 32) : Nat :=
  let c0_i32_432 : BitVec 32 := 0#32
  let c1_i32_431 : BitVec 32 := 1#32
  let v435 : BitVec 32 := Scalar.muli v1 c1_i32_431
  let v436 : BitVec 32 := Scalar.addi c0_i32_432 v435
  v436.toNat
def k0_dev19 (v2 : BitVec 32) : Nat :=
  let c0_i32_440 : BitVec 32 := 0#32
  let c1_i32_439 : BitVec 32 := 1#32
  let v437 : BitVec 32 := Scalar.muli v2 c1_i32_439
  let v438 : BitVec 32 := Scalar.addi c0_i32_440 v437
  v438.toNat
def k0_dev20 (v1 : BitVec 32) : Nat :=
  let c0_i32_484 : BitVec 32 := 0#32
  let c1_i32_483 : BitVec 32 := 1#32
  let v486 : BitVec 32 := Scalar.muli v1 c1_i32_483
  let v487 : BitVec 32 := Scalar.addi c0_i32_484 v486
  v487.toNat
def k0_dev21 (v2 : BitVec 32) : Nat :=
  let c0_i32_492 : BitVec 32 := 0#32
  let c1_i32_491 : BitVec 32 := 1#32
  let v488 : BitVec 32 := Scalar.muli v2 c1_i32_491
  let v489 : BitVec 32 := Scalar.addi c0_i32_492 v488
  v489.toNat
def k0_dev22 (v1 : BitVec 32) : Nat :=
  let c0_i32_536 : BitVec 32 := 0#32
  let c1_i32_535 : BitVec 32 := 1#32
  let v537 : BitVec 32 := Scalar.muli v1 c1_i32_535
  let v538 : BitVec 32 := Scalar.addi c0_i32_536 v537
  v538.toNat
def k0_dev23 (v2 : BitVec 32) : Nat :=
  let c0_i32_544 : BitVec 32 := 0#32
  let c1_i32_543 : BitVec 32 := 1#32
  let v539 : BitVec 32 := Scalar.muli v2 c1_i32_543
  let v540 : BitVec 32 := Scalar.addi c0_i32_544 v539
  v540.toNat
def k0_dev24 (v1 : BitVec 32) : Nat :=
  let c0_i32_588 : BitVec 32 := 0#32
  let c1_i32_587 : BitVec 32 := 1#32
  let v588 : BitVec 32 := Scalar.muli v1 c1_i32_587
  let v589 : BitVec 32 := Scalar.addi c0_i32_588 v588
  v589.toNat
def k0_dev25 (v2 : BitVec 32) : Nat :=
  let c0_i32_596 : BitVec 32 := 0#32
  let c1_i32_595 : BitVec 32 := 1#32
  let v590 : BitVec 32 := Scalar.muli v2 c1_i32_595
  let v591 : BitVec 32 := Scalar.addi c0_i32_596 v590
  v591.toNat
def k0_dev26 (v1 : BitVec 32) : Nat :=
  let c0_i32_640 : BitVec 32 := 0#32
  let c1_i32_639 : BitVec 32 := 1#32
  let v639 : BitVec 32 := Scalar.muli v1 c1_i32_639
  let v640 : BitVec 32 := Scalar.addi c0_i32_640 v639
  v640.toNat
def k0_dev27 (v2 : BitVec 32) : Nat :=
  let c0_i32_648 : BitVec 32 := 0#32
  let c1_i32_647 : BitVec 32 := 1#32
  let v641 : BitVec 32 := Scalar.muli v2 c1_i32_647
  let v642 : BitVec 32 := Scalar.addi c0_i32_648 v641
  v642.toNat
def k0_dev28 (v1 : BitVec 32) : Nat :=
  let c0_i32_692 : BitVec 32 := 0#32
  let c1_i32_691 : BitVec 32 := 1#32
  let v690 : BitVec 32 := Scalar.muli v1 c1_i32_691
  let v691 : BitVec 32 := Scalar.addi c0_i32_692 v690
  v691.toNat
def k0_dev29 (v2 : BitVec 32) : Nat :=
  let c0_i32_700 : BitVec 32 := 0#32
  let c1_i32_699 : BitVec 32 := 1#32
  let v692 : BitVec 32 := Scalar.muli v2 c1_i32_699
  let v693 : BitVec 32 := Scalar.addi c0_i32_700 v692
  v693.toNat
def k0_dev30 (v1 : BitVec 32) : Nat :=
  let c0_i32_744 : BitVec 32 := 0#32
  let c1_i32_743 : BitVec 32 := 1#32
  let v741 : BitVec 32 := Scalar.muli v1 c1_i32_743
  let v742 : BitVec 32 := Scalar.addi c0_i32_744 v741
  v742.toNat
def k0_dev31 (v2 : BitVec 32) : Nat :=
  let c0_i32_752 : BitVec 32 := 0#32
  let c1_i32_751 : BitVec 32 := 1#32
  let v743 : BitVec 32 := Scalar.muli v2 c1_i32_751
  let v744 : BitVec 32 := Scalar.addi c0_i32_752 v743
  v744.toNat
def k0_off3 (v0 : BitVec 32) : Fin 2 → Nat :=
  let c256_i32_794 : BitVec 32 := 256#32
  let v792 : BitVec 32 := Scalar.muli v0 c256_i32_794
  let c0_i32_796 : BitVec 32 := 0#32
  ![v792.toNat, 0]
def k0_dev32 (v1 : BitVec 32) : Nat :=
  let c0_i32_805 : BitVec 32 := 0#32
  let c1_i32_804 : BitVec 32 := 1#32
  let v799 : BitVec 32 := Scalar.muli v1 c1_i32_804
  let v800 : BitVec 32 := Scalar.addi c0_i32_805 v799
  v800.toNat
def k0_dev33 (v2 : BitVec 32) : Nat :=
  let c0_i32_813 : BitVec 32 := 0#32
  let c1_i32_812 : BitVec 32 := 1#32
  let v801 : BitVec 32 := Scalar.muli v2 c1_i32_812
  let v802 : BitVec 32 := Scalar.addi c0_i32_813 v801
  v802.toNat
def k0_off4 (v0 : BitVec 32) (c0_i32_838 : BitVec 32) : Fin 2 → Nat :=
  let c1_i32_837 : BitVec 32 := 1#32
  let v825 : BitVec 32 := Scalar.subi v0 c1_i32_837
  let v826 : BitVec 32 := Scalar.subi v825 c0_i32_838
  let c16_i32_839 : BitVec 32 := 16#32
  let c0_i32_840 : BitVec 32 := 0#32
  let v827 : BitVec 1 := Scalar.cmpi .eq c16_i32_839 c0_i32_840
  let c1_i32_841 : BitVec 32 := 1#32
  let v828 : BitVec 32 := Scalar.select v827 c1_i32_841 c16_i32_839
  let v829 : BitVec 32 := Scalar.remsi v826 v828
  let c0_i32_843 : BitVec 32 := 0#32
  let v831 : BitVec 1 := Scalar.cmpi .slt v829 c0_i32_843
  let c0_i32_844 : BitVec 32 := 0#32
  let v832 : BitVec 1 := Scalar.cmpi .slt v828 c0_i32_844
  let v833 : BitVec 1 := Scalar.xori v831 v832
  let c0_i32_842 : BitVec 32 := 0#32
  let v830 : BitVec 1 := Scalar.cmpi .ne v829 c0_i32_842
  let v834 : BitVec 1 := Scalar.andi v833 v830
  let v835 : BitVec 32 := Scalar.addi v829 v828
  let v836 : BitVec 32 := Scalar.select v834 v835 v829
  let c256_i32_845 : BitVec 32 := 256#32
  let v837 : BitVec 32 := Scalar.muli v836 c256_i32_845
  let c0_i32_847 : BitVec 32 := 0#32
  ![v837.toNat, 0]

def k0_chk3 (v0 : BitVec 32) : Prop :=
  (∀ a, (k0_off1 v0) a + S256x256.size a ≤ S4096x256.size a) ∧
  (∀ (r : Fin 15), ∀ a, (k0_off2 v0 (BitVec.ofNat 32 r.val)) a + S256x256.size a ≤ S4096x256.size a) ∧
  (∀ a, (k0_off3 v0) a + S256x8192.size a ≤ S4096x8192.size a) ∧
  (∀ (r : Fin 15), ∀ a, (k0_off4 v0 (BitVec.ofNat 32 r.val)) a + S256x8192.size a ≤ S4096x8192.size a)
theorem k0_off1_inb : ∀ (v0 : BitVec 32) (k0_hw3 : k0_chk3 v0), ∀ a, (k0_off1 v0) a + S256x256.size a ≤ S4096x256.size a := fun v0 k0_hw3 => k0_hw3.1
theorem k0_off2_inb : ∀ (v0 : BitVec 32) (k0_hw3 : k0_chk3 v0), ∀ (r : Fin 15), ∀ a, (k0_off2 v0 (BitVec.ofNat 32 r.val)) a + S256x256.size a ≤ S4096x256.size a := fun v0 k0_hw3 r => k0_hw3.2.1 r
theorem k0_off3_inb : ∀ (v0 : BitVec 32) (k0_hw3 : k0_chk3 v0), ∀ a, (k0_off3 v0) a + S256x8192.size a ≤ S4096x8192.size a := fun v0 k0_hw3 => k0_hw3.2.2.1
theorem k0_off4_inb : ∀ (v0 : BitVec 32) (k0_hw3 : k0_chk3 v0), ∀ (r : Fin 15), ∀ a, (k0_off4 v0 (BitVec.ofNat 32 r.val)) a + S256x8192.size a ≤ S4096x8192.size a := fun v0 k0_hw3 r => k0_hw3.2.2.2 r

def k0_dev34 (v1 : BitVec 32) : Nat :=
  let c0_i32_856 : BitVec 32 := 0#32
  let c1_i32_855 : BitVec 32 := 1#32
  let v844 : BitVec 32 := Scalar.muli v1 c1_i32_855
  let v845 : BitVec 32 := Scalar.addi c0_i32_856 v844
  v845.toNat
def k0_dev35 (v2 : BitVec 32) : Nat :=
  let c0_i32_864 : BitVec 32 := 0#32
  let c1_i32_863 : BitVec 32 := 1#32
  let v846 : BitVec 32 := Scalar.muli v2 c1_i32_863
  let v847 : BitVec 32 := Scalar.addi c0_i32_864 v846
  v847.toNat
def k0_dev36 (v1 : BitVec 32) : Nat :=
  let c0_i32_907 : BitVec 32 := 0#32
  let c1_i32_906 : BitVec 32 := 1#32
  let v889 : BitVec 32 := Scalar.muli v1 c1_i32_906
  let v890 : BitVec 32 := Scalar.addi c0_i32_907 v889
  v890.toNat
def k0_dev37 (v2 : BitVec 32) : Nat :=
  let c0_i32_915 : BitVec 32 := 0#32
  let c1_i32_914 : BitVec 32 := 1#32
  let v891 : BitVec 32 := Scalar.muli v2 c1_i32_914
  let v892 : BitVec 32 := Scalar.addi c0_i32_915 v891
  v892.toNat
def k0_dev38 (v1 : BitVec 32) : Nat :=
  let c0_i32_958 : BitVec 32 := 0#32
  let c1_i32_957 : BitVec 32 := 1#32
  let v934 : BitVec 32 := Scalar.muli v1 c1_i32_957
  let v935 : BitVec 32 := Scalar.addi c0_i32_958 v934
  v935.toNat
def k0_dev39 (v2 : BitVec 32) : Nat :=
  let c0_i32_966 : BitVec 32 := 0#32
  let c1_i32_965 : BitVec 32 := 1#32
  let v936 : BitVec 32 := Scalar.muli v2 c1_i32_965
  let v937 : BitVec 32 := Scalar.addi c0_i32_966 v936
  v937.toNat
def k0_dev40 (v1 : BitVec 32) : Nat :=
  let c0_i32_1009 : BitVec 32 := 0#32
  let c1_i32_1008 : BitVec 32 := 1#32
  let v979 : BitVec 32 := Scalar.muli v1 c1_i32_1008
  let v980 : BitVec 32 := Scalar.addi c0_i32_1009 v979
  v980.toNat
def k0_dev41 (v2 : BitVec 32) : Nat :=
  let c0_i32_1017 : BitVec 32 := 0#32
  let c1_i32_1016 : BitVec 32 := 1#32
  let v981 : BitVec 32 := Scalar.muli v2 c1_i32_1016
  let v982 : BitVec 32 := Scalar.addi c0_i32_1017 v981
  v982.toNat
def k0_dev42 (v1 : BitVec 32) : Nat :=
  let c0_i32_1060 : BitVec 32 := 0#32
  let c1_i32_1059 : BitVec 32 := 1#32
  let v1024 : BitVec 32 := Scalar.muli v1 c1_i32_1059
  let v1025 : BitVec 32 := Scalar.addi c0_i32_1060 v1024
  v1025.toNat
def k0_dev43 (v2 : BitVec 32) : Nat :=
  let c0_i32_1068 : BitVec 32 := 0#32
  let c1_i32_1067 : BitVec 32 := 1#32
  let v1026 : BitVec 32 := Scalar.muli v2 c1_i32_1067
  let v1027 : BitVec 32 := Scalar.addi c0_i32_1068 v1026
  v1027.toNat
def k0_dev44 (v1 : BitVec 32) : Nat :=
  let c0_i32_1111 : BitVec 32 := 0#32
  let c1_i32_1110 : BitVec 32 := 1#32
  let v1069 : BitVec 32 := Scalar.muli v1 c1_i32_1110
  let v1070 : BitVec 32 := Scalar.addi c0_i32_1111 v1069
  v1070.toNat
def k0_dev45 (v2 : BitVec 32) : Nat :=
  let c0_i32_1119 : BitVec 32 := 0#32
  let c1_i32_1118 : BitVec 32 := 1#32
  let v1071 : BitVec 32 := Scalar.muli v2 c1_i32_1118
  let v1072 : BitVec 32 := Scalar.addi c0_i32_1119 v1071
  v1072.toNat
def k0_dev46 (v1 : BitVec 32) : Nat :=
  let c0_i32_1162 : BitVec 32 := 0#32
  let c1_i32_1161 : BitVec 32 := 1#32
  let v1114 : BitVec 32 := Scalar.muli v1 c1_i32_1161
  let v1115 : BitVec 32 := Scalar.addi c0_i32_1162 v1114
  v1115.toNat
def k0_dev47 (v2 : BitVec 32) : Nat :=
  let c0_i32_1170 : BitVec 32 := 0#32
  let c1_i32_1169 : BitVec 32 := 1#32
  let v1116 : BitVec 32 := Scalar.muli v2 c1_i32_1169
  let v1117 : BitVec 32 := Scalar.addi c0_i32_1170 v1116
  v1117.toNat
def k0_dev48 (v1 : BitVec 32) : Nat :=
  let c0_i32_1213 : BitVec 32 := 0#32
  let c1_i32_1212 : BitVec 32 := 1#32
  let v1159 : BitVec 32 := Scalar.muli v1 c1_i32_1212
  let v1160 : BitVec 32 := Scalar.addi c0_i32_1213 v1159
  v1160.toNat
def k0_dev49 (v2 : BitVec 32) : Nat :=
  let c0_i32_1221 : BitVec 32 := 0#32
  let c1_i32_1220 : BitVec 32 := 1#32
  let v1161 : BitVec 32 := Scalar.muli v2 c1_i32_1220
  let v1162 : BitVec 32 := Scalar.addi c0_i32_1221 v1161
  v1162.toNat
def k0_dev50 (v1 : BitVec 32) : Nat :=
  let c0_i32_1264 : BitVec 32 := 0#32
  let c1_i32_1263 : BitVec 32 := 1#32
  let v1204 : BitVec 32 := Scalar.muli v1 c1_i32_1263
  let v1205 : BitVec 32 := Scalar.addi c0_i32_1264 v1204
  v1205.toNat
def k0_dev51 (v2 : BitVec 32) : Nat :=
  let c0_i32_1272 : BitVec 32 := 0#32
  let c1_i32_1271 : BitVec 32 := 1#32
  let v1206 : BitVec 32 := Scalar.muli v2 c1_i32_1271
  let v1207 : BitVec 32 := Scalar.addi c0_i32_1272 v1206
  v1207.toNat
def k0_dev52 (v1 : BitVec 32) : Nat :=
  let c0_i32_1315 : BitVec 32 := 0#32
  let c1_i32_1314 : BitVec 32 := 1#32
  let v1249 : BitVec 32 := Scalar.muli v1 c1_i32_1314
  let v1250 : BitVec 32 := Scalar.addi c0_i32_1315 v1249
  v1250.toNat
def k0_dev53 (v2 : BitVec 32) : Nat :=
  let c0_i32_1323 : BitVec 32 := 0#32
  let c1_i32_1322 : BitVec 32 := 1#32
  let v1251 : BitVec 32 := Scalar.muli v2 c1_i32_1322
  let v1252 : BitVec 32 := Scalar.addi c0_i32_1323 v1251
  v1252.toNat
def k0_dev54 (v1 : BitVec 32) : Nat :=
  let c0_i32_1366 : BitVec 32 := 0#32
  let c1_i32_1365 : BitVec 32 := 1#32
  let v1294 : BitVec 32 := Scalar.muli v1 c1_i32_1365
  let v1295 : BitVec 32 := Scalar.addi c0_i32_1366 v1294
  v1295.toNat
def k0_dev55 (v2 : BitVec 32) : Nat :=
  let c0_i32_1374 : BitVec 32 := 0#32
  let c1_i32_1373 : BitVec 32 := 1#32
  let v1296 : BitVec 32 := Scalar.muli v2 c1_i32_1373
  let v1297 : BitVec 32 := Scalar.addi c0_i32_1374 v1296
  v1297.toNat
def k0_dev56 (v1 : BitVec 32) : Nat :=
  let c0_i32_1417 : BitVec 32 := 0#32
  let c1_i32_1416 : BitVec 32 := 1#32
  let v1339 : BitVec 32 := Scalar.muli v1 c1_i32_1416
  let v1340 : BitVec 32 := Scalar.addi c0_i32_1417 v1339
  v1340.toNat
def k0_dev57 (v2 : BitVec 32) : Nat :=
  let c0_i32_1425 : BitVec 32 := 0#32
  let c1_i32_1424 : BitVec 32 := 1#32
  let v1341 : BitVec 32 := Scalar.muli v2 c1_i32_1424
  let v1342 : BitVec 32 := Scalar.addi c0_i32_1425 v1341
  v1342.toNat
def k0_dev58 (v1 : BitVec 32) : Nat :=
  let c0_i32_1468 : BitVec 32 := 0#32
  let c1_i32_1467 : BitVec 32 := 1#32
  let v1384 : BitVec 32 := Scalar.muli v1 c1_i32_1467
  let v1385 : BitVec 32 := Scalar.addi c0_i32_1468 v1384
  v1385.toNat
def k0_dev59 (v2 : BitVec 32) : Nat :=
  let c0_i32_1476 : BitVec 32 := 0#32
  let c1_i32_1475 : BitVec 32 := 1#32
  let v1386 : BitVec 32 := Scalar.muli v2 c1_i32_1475
  let v1387 : BitVec 32 := Scalar.addi c0_i32_1476 v1386
  v1387.toNat
def k0_dev60 (v1 : BitVec 32) : Nat :=
  let c0_i32_1519 : BitVec 32 := 0#32
  let c1_i32_1518 : BitVec 32 := 1#32
  let v1429 : BitVec 32 := Scalar.muli v1 c1_i32_1518
  let v1430 : BitVec 32 := Scalar.addi c0_i32_1519 v1429
  v1430.toNat

def k0_chk1 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev12_lt : ∀ (v1 : BitVec 32) (k0_hw1 : k0_chk1 v1), (k0_dev12 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev32_lt : ∀ (v1 : BitVec 32) (k0_hw1 : k0_chk1 v1), (k0_dev32 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev36_lt : ∀ (v1 : BitVec 32) (k0_hw1 : k0_chk1 v1), (k0_dev36 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev40_lt : ∀ (v1 : BitVec 32) (k0_hw1 : k0_chk1 v1), (k0_dev40 v1) < nD := fun v1 k0_hw1 => k0_hw1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.2.2.2.2.2.2.2.2.2.2.2.2.2.2.2.2.2.2.2.2.2.2.2.2.2.2.2.2.2

def k0_dev61 (v2 : BitVec 32) : Nat :=
  let c0_i32_1527 : BitVec 32 := 0#32
  let c1_i32_1526 : BitVec 32 := 1#32
  let v1431 : BitVec 32 := Scalar.muli v2 c1_i32_1526
  let v1432 : BitVec 32 := Scalar.addi c0_i32_1527 v1431
  v1432.toNat

def k0_chk2 (v2 : BitVec 32) : Prop :=
  ((k0_dev2 v2) < nD) ∧
  ((k0_dev3 v2) < nD) ∧
  ((k0_dev5 v2) < nD) ∧
  ((k0_dev7 v2) < nD) ∧
  ((k0_dev9 v2) < nD) ∧
  ((k0_dev11 v2) < nD) ∧
  ((k0_dev13 v2) < nD) ∧
  ((k0_dev15 v2) < nD) ∧
  ((k0_dev17 v2) < nD) ∧
  ((k0_dev19 v2) < nD) ∧
  ((k0_dev21 v2) < nD) ∧
  ((k0_dev23 v2) < nD) ∧
  ((k0_dev25 v2) < nD) ∧
  ((k0_dev27 v2) < nD) ∧
  ((k0_dev29 v2) < nD) ∧
  ((k0_dev31 v2) < nD) ∧
  ((k0_dev33 v2) < nD) ∧
  ((k0_dev35 v2) < nD) ∧
  ((k0_dev37 v2) < nD) ∧
  ((k0_dev39 v2) < nD) ∧
  ((k0_dev41 v2) < nD) ∧
  ((k0_dev43 v2) < nD) ∧
  ((k0_dev45 v2) < nD) ∧
  ((k0_dev47 v2) < nD) ∧
  ((k0_dev49 v2) < nD) ∧
  ((k0_dev51 v2) < nD) ∧
  ((k0_dev53 v2) < nD) ∧
  ((k0_dev55 v2) < nD) ∧
  ((k0_dev57 v2) < nD) ∧
  ((k0_dev59 v2) < nD) ∧
  ((k0_dev61 v2) < nD)
theorem k0_dev2_lt : ∀ (v2 : BitVec 32) (k0_hw2 : k0_chk2 v2), (k0_dev2 v2) < nD := fun v2 k0_hw2 => k0_hw2.1
theorem k0_dev3_lt : ∀ (v2 : BitVec 32) (k0_hw2 : k0_chk2 v2), (k0_dev3 v2) < nD := fun v2 k0_hw2 => k0_hw2.2.1
theorem k0_dev5_lt : ∀ (v2 : BitVec 32) (k0_hw2 : k0_chk2 v2), (k0_dev5 v2) < nD := fun v2 k0_hw2 => k0_hw2.2.2.1
theorem k0_dev7_lt : ∀ (v2 : BitVec 32) (k0_hw2 : k0_chk2 v2), (k0_dev7 v2) < nD := fun v2 k0_hw2 => k0_hw2.2.2.2.1
theorem k0_dev9_lt : ∀ (v2 : BitVec 32) (k0_hw2 : k0_chk2 v2), (k0_dev9 v2) < nD := fun v2 k0_hw2 => k0_hw2.2.2.2.2.1
theorem k0_dev11_lt : ∀ (v2 : BitVec 32) (k0_hw2 : k0_chk2 v2), (k0_dev11 v2) < nD := fun v2 k0_hw2 => k0_hw2.2.2.2.2.2.1
theorem k0_dev13_lt : ∀ (v2 : BitVec 32) (k0_hw2 : k0_chk2 v2), (k0_dev13 v2) < nD := fun v2 k0_hw2 => k0_hw2.2.2.2.2.2.2.1
theorem k0_dev15_lt : ∀ (v2 : BitVec 32) (k0_hw2 : k0_chk2 v2), (k0_dev15 v2) < nD := fun v2 k0_hw2 => k0_hw2.2.2.2.2.2.2.2.1
theorem k0_dev17_lt : ∀ (v2 : BitVec 32) (k0_hw2 : k0_chk2 v2), (k0_dev17 v2) < nD := fun v2 k0_hw2 => k0_hw2.2.2.2.2.2.2.2.2.1
theorem k0_dev19_lt : ∀ (v2 : BitVec 32) (k0_hw2 : k0_chk2 v2), (k0_dev19 v2) < nD := fun v2 k0_hw2 => k0_hw2.2.2.2.2.2.2.2.2.2.1
theorem k0_dev21_lt : ∀ (v2 : BitVec 32) (k0_hw2 : k0_chk2 v2), (k0_dev21 v2) < nD := fun v2 k0_hw2 => k0_hw2.2.2.2.2.2.2.2.2.2.2.1
theorem k0_dev23_lt : ∀ (v2 : BitVec 32) (k0_hw2 : k0_chk2 v2), (k0_dev23 v2) < nD := fun v2 k0_hw2 => k0_hw2.2.2.2.2.2.2.2.2.2.2.2.1
theorem k0_dev25_lt : ∀ (v2 : BitVec 32) (k0_hw2 : k0_chk2 v2), (k0_dev25 v2) < nD := fun v2 k0_hw2 => k0_hw2.2.2.2.2.2.2.2.2.2.2.2.2.1
theorem k0_dev27_lt : ∀ (v2 : BitVec 32) (k0_hw2 : k0_chk2 v2), (k0_dev27 v2) < nD := fun v2 k0_hw2 => k0_hw2.2.2.2.2.2.2.2.2.2.2.2.2.2.1
theorem k0_dev29_lt : ∀ (v2 : BitVec 32) (k0_hw2 : k0_chk2 v2), (k0_dev29 v2) < nD := fun v2 k0_hw2 => k0_hw2.2.2.2.2.2.2.2.2.2.2.2.2.2.2.1
theorem k0_dev31_lt : ∀ (v2 : BitVec 32) (k0_hw2 : k0_chk2 v2), (k0_dev31 v2) < nD := fun v2 k0_hw2 => k0_hw2.2.2.2.2.2.2.2.2.2.2.2.2.2.2.2.1
theorem k0_dev33_lt : ∀ (v2 : BitVec 32) (k0_hw2 : k0_chk2 v2), (k0_dev33 v2) < nD := fun v2 k0_hw2 => k0_hw2.2.2.2.2.2.2.2.2.2.2.2.2.2.2.2.2.1
theorem k0_dev35_lt : ∀ (v2 : BitVec 32) (k0_hw2 : k0_chk2 v2), (k0_dev35 v2) < nD := fun v2 k0_hw2 => k0_hw2.2.2.2.2.2.2.2.2.2.2.2.2.2.2.2.2.2.1
theorem k0_dev37_lt : ∀ (v2 : BitVec 32) (k0_hw2 : k0_chk2 v2), (k0_dev37 v2) < nD := fun v2 k0_hw2 => k0_hw2.2.2.2.2.2.2.2.2.2.2.2.2.2.2.2.2.2.2.1
theorem k0_dev39_lt : ∀ (v2 : BitVec 32) (k0_hw2 : k0_chk2 v2), (k0_dev39 v2) < nD := fun v2 k0_hw2 => k0_hw2.2.2.2.2.2.2.2.2.2.2.2.2.2.2.2.2.2.2.2.1
theorem k0_dev41_lt : ∀ (v2 : BitVec 32) (k0_hw2 : k0_chk2 v2), (k0_dev41 v2) < nD := fun v2 k0_hw2 => k0_hw2.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.2.2.2.2.2.2.2.2.2.2.2.2.2.2.2.2.2.2.2.2.2.1
theorem k0_dev45_lt : ∀ (v2 : BitVec 32) (k0_hw2 : k0_chk2 v2), (k0_dev45 v2) < nD := fun v2 k0_hw2 => k0_hw2.2.2.2.2.2.2.2.2.2.2.2.2.2.2.2.2.2.2.2.2.2.2.1
theorem k0_dev47_lt : ∀ (v2 : BitVec 32) (k0_hw2 : k0_chk2 v2), (k0_dev47 v2) < nD := fun v2 k0_hw2 => k0_hw2.2.2.2.2.2.2.2.2.2.2.2.2.2.2.2.2.2.2.2.2.2.2.2.1
theorem k0_dev49_lt : ∀ (v2 : BitVec 32) (k0_hw2 : k0_chk2 v2), (k0_dev49 v2) < nD := fun v2 k0_hw2 => k0_hw2.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.2.2.2.2.2.2.2.2.2.2.2.2.2.2.2.2.2.2.2.2.2.2.2.2.2.1
theorem k0_dev53_lt : ∀ (v2 : BitVec 32) (k0_hw2 : k0_chk2 v2), (k0_dev53 v2) < nD := fun v2 k0_hw2 => k0_hw2.2.2.2.2.2.2.2.2.2.2.2.2.2.2.2.2.2.2.2.2.2.2.2.2.2.2.1
theorem k0_dev55_lt : ∀ (v2 : BitVec 32) (k0_hw2 : k0_chk2 v2), (k0_dev55 v2) < nD := fun v2 k0_hw2 => k0_hw2.2.2.2.2.2.2.2.2.2.2.2.2.2.2.2.2.2.2.2.2.2.2.2.2.2.2.2.1
theorem k0_dev57_lt : ∀ (v2 : BitVec 32) (k0_hw2 : k0_chk2 v2), (k0_dev57 v2) < nD := fun v2 k0_hw2 => k0_hw2.2.2.2.2.2.2.2.2.2.2.2.2.2.2.2.2.2.2.2.2.2.2.2.2.2.2.2.2.1
theorem k0_dev59_lt : ∀ (v2 : BitVec 32) (k0_hw2 : k0_chk2 v2), (k0_dev59 v2) < nD := fun v2 k0_hw2 => k0_hw2.2.2.2.2.2.2.2.2.2.2.2.2.2.2.2.2.2.2.2.2.2.2.2.2.2.2.2.2.2.1
theorem k0_dev61_lt : ∀ (v2 : BitVec 32) (k0_hw2 : k0_chk2 v2), (k0_dev61 v2) < nD := fun v2 k0_hw2 => k0_hw2.2.2.2.2.2.2.2.2.2.2.2.2.2.2.2.2.2.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.RingBody.lean ====
module

public import proofs.«01_k».proof.Proof.Gen.KernelIdeal.Skeleton

/-! The kernel's body as the ring algorithm it is: a prologue, then thirty hops written once at a
    symbolic hop number. -/

@[expose] public section

noncomputable section

namespace Cert.KernelIdeal.Ring

open Idealize.ShloMosaic Idealize.SL.Sem
open Cert.KernelIdeal.Gen

variable {F : FTy → Type} [FloatOps F]

/-- The slot that hop `h` sends from. -/
abbrev src (h : ℕ) : ℕ := h % 2
/-- The slot that hop `h` lands in. -/
abbrev dst (h : ℕ) : ℕ := (h + 1) % 2

theorem slot_inb (s : ℕ) (hs : s < 2) : ∀ a, (![s, 0, 0] : Fin 3 → ℕ) a + S1x256x8192.size a ≤ S2x256x8192.size a := by
  intro a; fin_cases a
  · show s + 1 ≤ 2; omega
  · show 0 + 256 ≤ 256; omega
  · show 0 + 8192 ≤ 8192; omega

theorem sem_inb (s : ℕ) (hs : s < 2) : ∀ a, (![s] : Fin 1 → ℕ) a + S1.size a ≤ S2.size a := by
  intro a; fin_cases a; show s + 1 ≤ 2; omega

theorem src_lt (h : ℕ) : src h < 2 := Nat.mod_lt _ (by decide)
theorem dst_lt (h : ℕ) : dst h < 2 := Nat.mod_lt _ (by decide)

/-- The rectangle of slot `s` in the two-slot scratch buffer. -/
abbrev slotRect (s : ℕ) (hs : s < 2) : Rect S2x256x8192 := Rect.unit (s := S2x256x8192) ![s, 0, 0] S1x256x8192.size (slot_inb s hs)

/-- Slot `s` of the scratch buffer, as the copies address it. -/
abbrev slotRef (arg4 : Memref sig .tc .vmem S2x256x8192 .f32) (s : ℕ) (hs : s < 2) : Memref sig .tc .vmem S256x8192 .f32 :=
  (arg4.slice (slotRect s hs) (fun _ => rfl)).squeeze S256x8192 squeezes_S1x256x8192_S256x8192

/-- Semaphore `s` of a pair. -/
abbrev semOf (sems : DmaSems sig S2) (s : ℕ) (hs : s < 2) : DmaSem sig :=
  ((sems.slice (Rect.unit (s := S2) ![s] S1.size (sem_inb s hs))).squeeze S_ squeezes_S1_S_).sem

section
variable (arg1 : Memref sig .tc .vmem S4096x256 .f32) (arg2 : Memref sig .tc .vmem S256x8192 .f32)
  (arg3 : Memref sig .tc .hbm S4096x8192 .f32) (arg4 : Memref sig .tc .vmem S2x256x8192 .f32)
  (arg5 arg6 : DmaSems sig S2) (arg7 : Sems sig S_) (arg8 : DmaSems sig S_)

/-- Hop `h`'s remote copy to device `n`, and the two waits for it. -/
def exchange (h : ℕ) (n : Dev nD) : Prog (TpuEff nD τ sig (Elt F) Λ₀ .tc) PUnit := do
  Prog.lift (.enqueueDma (slotRef arg4 (src h) (src_lt h)) (.remote (Dev.tc n) (slotRef arg4 (dst h) (dst_lt h)) (.dma (semOf arg5 (src h) (src_lt h))))
    (.dma (semOf arg6 (dst h) (dst_lt h))) ((View.wordExact_bits rfl).reshape _ _) ((View.wordExact_bits rfl).reshape _ _) ⟨⟨rfl, Or.inl rfl⟩, trivial⟩)
  Prog.lift (.waitDma2 (semOf arg5 (src h) (src_lt h)) (slotRef arg4 (dst h) (dst_lt h)) (slotRef arg4 (src h) (src_lt h))
    ((View.wordExact_bits rfl).reshape _ _) ((View.wordExact_bits rfl).reshape _ _))
  Prog.lift (.waitDma2 (semOf arg6 (dst h) (dst_lt h)) (slotRef arg4 (src h) (src_lt h)) (slotRef arg4 (dst h) (dst_lt h))
    ((View.wordExact_bits rfl).reshape _ _) ((View.wordExact_bits rfl).reshape _ _))

/-- A reduce-scatter hop's accumulation: the landed slot plus the device's own partial product. -/
def accumulate (h : ℕ) (off : Fin 2 → ℕ) (hoff : ∀ a, off a + S256x256.size a ≤ S4096x256.size a) : Prog (TpuEff nD τ sig (Elt F) Λ₀ .tc) PUnit := do
  let a : Vec F S1x256x8192 .f32 ← Prog.lift (.load arg4 (slotRect (dst h) (dst_lt h)).toLoadRect (View.loadsAt_vmem h_S1x256x8192))
  let x : Vec F S256x256 .f32 ← Prog.lift (.load arg1 (Rect.unit (s := S4096x256) off S256x256.size hoff).toLoadRect (View.loadsAt_vmem h_S256x256))
  let w : Vec F S256x8192 .f32 ← Prog.lift (.load arg2 (Rect.unit (s := S256x8192) ![0, 0] S256x8192.size inb_S256x8192_S256x8192_0_0).toLoadRect (View.loadsAt_vmem h_S256x8192))
  let _ ← Prog.lift (.load arg4 (slotRect (dst h) (dst_lt h)).toLoadRect (View.loadsAt_vmem h_S1x256x8192))
  Prog.lift (.store arg4 (slotRect (dst h) (dst_lt h)) (k0_pay3 a x w) Finset.univ (View.stores_vmem_bits_univ h_S1x256x8192 rfl) (.inl rfl))

/-- The local copy of the landed slot to a row block of the result. -/
def copyOut (h : ℕ) (off : Fin 2 → ℕ) (hoff : ∀ a, off a + S256x8192.size a ≤ S4096x8192.size a) : Prog (TpuEff nD τ sig (Elt F) Λ₀ .tc) PUnit := do
  Prog.lift (.enqueueDma (slotRef arg4 (dst h) (dst_lt h)) (.here (arg3.slice (Rect.unit (s := S4096x8192) off S256x8192.size hoff) (fun _ => rfl)))
    (.dma arg8.sem) ((View.wordExact_bits rfl).reshape _ _) (View.wordExact_bits rfl) ⟨Or.inl rfl, trivial⟩)
  Prog.lift (.waitDma2 arg8.sem (slotRef arg4 (dst h) (dst_lt h)) (arg3.slice (Rect.unit (s := S4096x8192) off S256x8192.size hoff) (fun _ => rfl))
    ((View.wordExact_bits rfl).reshape _ _) (View.wordExact_bits rfl))

/-- Between two hops: a credit to device `n`, then the wait for one's own. -/
def turn (n : Dev nD) : Prog (TpuEff nD τ sig (Elt F) Λ₀ .tc) PUnit := do
  semSignalWord n arg7.sem 1#32
  semWaitWord arg7.sem 1#32

/-- What hop `h` does with what it received. -/
def settle (v0 : Elt F .i32) (hw3 : k0_chk3 v0) (h : ℕ) : Prog (TpuEff nD τ sig (Elt F) Λ₀ .tc) PUnit :=
  if h < 14 then
    accumulate arg1 arg2 arg4 h (k0_off2 v0 (BitVec.ofNat 32 (Fin.ofNat 15 h).val)) (k0_off2_inb v0 hw3 (Fin.ofNat 15 h))
  else if h = 14 then do
    accumulate arg1 arg2 arg4 h (k0_off2 v0 (BitVec.ofNat 32 (Fin.ofNat 15 h).val)) (k0_off2_inb v0 hw3 (Fin.ofNat 15 h))
    copyOut arg3 arg4 arg8 h (k0_off3 v0) (k0_off3_inb v0 hw3)
  else
    copyOut arg3 arg4 arg8 h (k0_off4 v0 (BitVec.ofNat 32 (Fin.ofNat 15 h).val)) (k0_off4_inb v0 hw3 (Fin.ofNat 15 h))

/-- The last `n` hops, from hop `h` on. -/
def hops (v0 : Elt F .i32) (hw3 : k0_chk3 v0) (l r : Dev nD) : ℕ → ℕ → Prog (TpuEff nD τ sig (Elt F) Λ₀ .tc) PUnit
  | 0, _ => pure ⟨⟩
  | 1, h => do
    exchange arg4 arg5 arg6 h r
    settle arg1 arg2 arg3 arg4 arg8 v0 hw3 h
  | n + 2, h => do
    exchange arg4 arg5 arg6 h r
    settle arg1 arg2 arg3 arg4 arg8 v0 hw3 h
    turn arg7 l
    hops v0 hw3 l r (n + 1) (h + 1)

/-- The body from the barrier on, at the neighbours the position table names. -/
def fromBarrier (v0 : Elt F .i32) (hw3 : k0_chk3 v0) (l r : Dev nD) : Prog (TpuEff nD τ sig (Elt F) Λ₀ .tc) PUnit := do
  semSignalWord l (SemArray.scalar (sig.barrier 0 rfl) : Sems sig S_).sem 1#32
  semSignalWord r (SemArray.scalar (sig.barrier 0 rfl) : Sems sig S_).sem 1#32
  semWaitWord (SemArray.scalar (sig.barrier 0 rfl) : Sems sig S_).sem 2#32
  let x : Vec F S256x256 .f32 ← Prog.lift (.load arg1 (Rect.unit (s := S4096x256) (k0_off1 v0) S256x256.size (k0_off1_inb v0 hw3)).toLoadRect (View.loadsAt_vmem h_S256x256))
  let w : Vec F S256x8192 .f32 ← Prog.lift (.load arg2 (Rect.unit (s := S256x8192) ![0, 0] S256x8192.size inb_S256x8192_S256x8192_0_0).toLoadRect (View.loadsAt_vmem h_S256x8192))
  let _ ← Prog.lift (.load arg4 (slotRect 0 (by decide)).toLoadRect (View.loadsAt_vmem h_S1x256x8192))
  Prog.lift (.store arg4 (slotRect 0 (by decide)) (k0_pay2 (k0_pay1 x w)) Finset.univ (View.stores_vmem_bits_univ h_S1x256x8192 rfl) (.inl rfl))
  hops arg1 arg2 arg3 arg4 arg5 arg6 arg7 arg8 v0 hw3 l r 30 0

/-- The whole body. -/
def body (arg0 : Memref sig .tc .smem S3 .i32) : Prog (TpuEff nD τ sig (Elt F) Λ₀ .tc) PUnit := do
  let v0 : Elt F .i32 ← smemLoad arg0 (Rect.unit (s := S3) ![0] S1.size inb_S3_S1_0) numel1_S1 rfl
  let hw3 ← Prog.lift (TpuEff.assume (k0_chk3 v0) (k0_chk3.dec v0))
  let v1 : Elt F .i32 ← smemLoad arg0 (Rect.unit (s := S3) ![1] S1.size inb_S3_S1_1) numel1_S1 rfl
  let hw1 ← Prog.lift (TpuEff.assume (k0_chk1 v1) (k0_chk1.dec v1))
  let v2 : Elt F .i32 ← smemLoad arg0 (Rect.unit (s := S3) ![2] S1.size inb_S3_S1_2) numel1_S1 rfl
  let hw2 ← Prog.lift (TpuEff.assume (k0_chk2 v2) (k0_chk2.dec v2))
  fromBarrier arg1 arg2 arg3 arg4 arg5 arg6 arg7 arg8 v0 hw3.down ⟨k0_dev1 v1, k0_dev1_lt v1 hw1.down⟩ ⟨k0_dev3 v2, k0_dev3_lt v2 hw2.down⟩

end

set_option maxRecDepth 1000000 in
set_option maxHeartbeats 40000000 in
/-- The printed body is the ring algorithm. -/
theorem cc0_body_eq (arg0 : Memref sig .tc .smem S3 .i32) (harg0 : arg0.IsWhole) (arg1 : Memref sig .tc .vmem S4096x256 .f32) (harg1 : arg1.IsWhole)
    (arg2 : Memref sig .tc .vmem S256x8192 .f32) (harg2 : arg2.IsWhole) (arg3 : Memref sig .tc .hbm S4096x8192 .f32) (harg3 : arg3.IsWhole)
    (arg4 : Memref sig .tc .vmem S2x256x8192 .f32) (harg4 : arg4.IsWhole) (arg5 arg6 : DmaSems sig S2) (arg7 : Sems sig S_) (arg8 : DmaSems sig S_) :
    cc0_body (F := F) arg0 harg0 arg1 harg1 arg2 harg2 arg3 harg3 arg4 harg4 arg5 arg6 arg7 arg8
      = body arg1 arg2 arg3 arg4 arg5 arg6 arg7 arg8 arg0 := rfl

end Cert.KernelIdeal.Ring

end
-- ==== Proof.Schedule.lean ====
module

public import proofs.«01_k».proof.Proof.RingBody
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.Tactic

/-! The ring's protocol: its devices and cells, who pays which round of which cell and hands over
    what, what each device owes, and the levels of the waits. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The ghost state: the staging cells' and the ring's -/

abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## The ring -/

set_option backward.proofsInPublic true in
/-- The right neighbour: the device that `c` copies to. -/
def rgt (c : Dev nD) : Dev nD := ⟨(c.val + 1) % 16, Nat.mod_lt _ (by decide)⟩
set_option backward.proofsInPublic true in
/-- The left neighbour: the device that copies to `c`. -/
def lft (c : Dev nD) : Dev nD := ⟨(c.val + 15) % 16, Nat.mod_lt _ (by decide)⟩

theorem lft_rgt (c : Dev nD) : lft (rgt c) = c := by revert c; decide
theorem rgt_lft (c : Dev nD) : rgt (lft c) = c := by revert c; decide

/-- The ring as a rotation. -/
def ring : Dev nD ≃ Dev nD := ⟨rgt, lft, lft_rgt, rgt_lft⟩

/-! ## Cells -/

abbrev barS : Sem sig := (SemArray.scalar (sig.barrier 0 rfl) : Sems sig S_).sem
abbrev credS : Sem sig := (cc0_scratch3 : Sems sig S_).sem
abbrev sendS (s : ℕ) (hs : s < 2) : DmaSem sig := semOf cc0_scratch1 s hs
abbrev recvS (s : ℕ) (hs : s < 2) : DmaSem sig := semOf cc0_scratch2 s hs
abbrev copyS : DmaSem sig := (cc0_scratch4 : DmaSems sig S_).sem

theorem barS_val : (barS : Sem sig).val = 1 := rfl
theorem credS_val : (credS : Sem sig).val = 0 := rfl
theorem copyS_val : (copyS : DmaSem sig).val = 7 := rfl
theorem sendS_val (s : ℕ) (hs : s < 2) : (sendS s hs).val = 3 + s :=
  (by decide : ∀ s : Fin 2, (sendS s.val s.isLt).val = 3 + s.val) ⟨s, hs⟩
theorem recvS_val (s : ℕ) (hs : s < 2) : (recvS s hs).val = 5 + s :=
  (by decide : ∀ s : Fin 2, (recvS s.val s.isLt).val = 5 + s.val) ⟨s, hs⟩

abbrev barCell (c : Dev nD) : GSem nD τ sig := ((c : Thread nD τ), .reg barS)
abbrev credCell (c : Dev nD) : GSem nD τ sig := ((c : Thread nD τ), .reg credS)
abbrev sendCell (c : Dev nD) (s : ℕ) (hs : s < 2) : GSem nD τ sig := ((c : Thread nD τ), .dma (sendS s hs))
abbrev recvCell (c : Dev nD) (s : ℕ) (hs : s < 2) : GSem nD τ sig := ((c : Thread nD τ), .dma (recvS s hs))
abbrev copyCell (c : Dev nD) : GSem nD τ sig := ((c : Thread nD τ), .dma copyS)

/-! ## The two buffers: slots of the scratch, row blocks of the result -/

abbrev scr : Memref sig .tc .vmem S2x256x8192 .f32 := Memref.whole cc0_scratch0
abbrev out : Memref sig .tc .hbm S4096x8192 .f32 := Memref.whole main_v28

theorem blk_inb (k : ℕ) (hk : k < 16) : ∀ a, (![k * 256, 0] : Fin 2 → ℕ) a + S256x8192.size a ≤ S4096x8192.size a := by
  intro a; fin_cases a
  · show k * 256 + 256 ≤ 4096; omega
  · show 0 + 8192 ≤ 8192; omega

/-- Row block `k` of the result. -/
abbrev outRef (k : ℕ) (hk : k < 16) : Memref sig .tc .hbm S256x8192 .f32 :=
  out.slice (Rect.unit (s := S4096x8192) ![k * 256, 0] S256x8192.size (blk_inb k hk)) (fun _ => rfl)

/-- Scratch contents that hold `v` in either slot. -/
def cbuf (v : Vec F S1x256x8192 .f32) : (cc0_scratch0 : Ref sig .tc).ty.Contents (Elt F) :=
  fun i => v fun a => match a with
    | 0 => (0 : Fin 1)
    | 1 => i 1
    | 2 => i 2

/-- Slot `s` of device `c`, at contents `f`. -/
abbrev slotAt (c : Dev nD) (s : ℕ) (hs : s < 2) (f : (cc0_scratch0 : Ref sig .tc).ty.Contents (Elt F)) : sProp 𝕄 :=
  (slotRef scr s hs).view.loc (c : Thread nD τ) ↦[(slotRef scr s hs).view.set]{fullShare} f

/-- Row block `k` of device `c`'s result, at contents `f`. -/
abbrev outAt (c : Dev nD) (k : ℕ) (hk : k < 16) (f : (main_v28 : Ref sig .tc).ty.Contents (Elt F)) : sProp 𝕄 :=
  (outRef k hk).view.loc (c : Thread nD τ) ↦[(outRef k hk).view.set]{fullShare} f

/-- What one copy of a slot adds to a semaphore. -/
abbrev N : ℕ := (slotRef scr 0 (by decide)).view.dmaCredit
theorem N_pos : 0 < N := View.dmaCredit_pos _ (by decide)
/-- What one copy to a row block of the result adds to a semaphore. -/
abbrev NO : ℕ := (outRef 0 (by decide)).view.dmaCredit
theorem NO_pos : 0 < NO := View.dmaCredit_pos _ (by decide)

/-! ## Contents -/

variable (B : ℕ → Dev nD → Vec F S1x256x8192 .f32)

/-- The row block that device `c` writes with its copy `j`. -/
def blk (c : Dev nD) (j : ℕ) : ℕ := (c.val + 16 * (j / 16 + 1) - j) % 16
theorem blk_lt (c : Dev nD) (j : ℕ) : blk c j < 16 := Nat.mod_lt _ (by decide)

/-- The copy of device `c` that writes row block `k`. -/
def turnOf (c : Dev nD) (k : ℕ) : ℕ := (c.val + 16 - k) % 16

theorem turnOf_blk (c : Dev nD) (j : ℕ) (hj : j < 16) : turnOf c (blk c j) = j := by
  have := c.isLt
  unfold turnOf blk
  rw [Nat.div_eq_of_lt hj]
  omega

/-- Device `c`'s result after its first `n` copies: the blocks written hold their chunks, the rest is as before. -/
def outFn (c : Dev nD) (f₀ : (main_v28 : Ref sig .tc).ty.Contents (Elt F)) (n : ℕ) : (main_v28 : Ref sig .tc).ty.Contents (Elt F) :=
  fun i => if turnOf c ((i 0).val / 256) < n then
      B (15 + turnOf c ((i 0).val / 256)) c fun a => match a with
        | 0 => (0 : Fin 1)
        | 1 => ⟨(i 0).val % 256, Nat.mod_lt _ (by decide)⟩
        | 2 => i 1
    else f₀ i

/-- Device `c`'s finished result. -/
def outFin (c : Dev nD) : (main_v28 : Ref sig .tc).ty.Contents (Elt F) :=
  fun i => B (15 + turnOf c ((i 0).val / 256)) c fun a => match a with
        | 0 => (0 : Fin 1)
        | 1 => ⟨(i 0).val % 256, Nat.mod_lt _ (by decide)⟩
        | 2 => i 1

omit [FloatOps F] in
theorem outFn_all (c : Dev nD) (f₀ : (main_v28 : Ref sig .tc).ty.Contents (Elt F)) : outFn B c f₀ 16 = outFin B c := by
  funext i
  unfold outFn outFin
  rw [if_pos]
  exact Nat.mod_lt _ (by decide)

omit [FloatOps F] in
theorem outFn_zero (c : Dev nD) (f₀ : (main_v28 : Ref sig .tc).ty.Contents (Elt F)) : outFn B c f₀ 0 = f₀ := by
  funext i
  unfold outFn
  rw [if_neg (Nat.not_lt_zero _)]

/-! ## The schedule -/

/-- The hop whose copy lands in slot `s` as that slot's `r`-th. -/
abbrev hopOf (s r : ℕ) : ℕ := 2 * r + (1 - s)

/-- Paid to the barrier of `c`: by its right neighbour (`true`), the right neighbour's slot 1 and that its first landing there is awaited;
    by its left neighbour, nothing. -/
def barPay (c : Dev nD) (d : Bool) : sProp 𝕄 :=
  if d then iprop((∃ f, slotAt (rgt c) 1 (by decide) f) ∗ reached ER (recvCell (rgt c) 1 (by decide)) 0) else iprop(emp)

/-- Paid to the credit cell of `c` in round `r` by its right neighbour: the slot that its hop `r + 1` lands in, and that
    the landing is awaited. -/
def credPay (c : Dev nD) (r : ℕ) : sProp 𝕄 :=
  iprop((∃ f, slotAt (rgt c) (src r) (src_lt r) f) ∗ reached ER (recvCell (rgt c) (src r) (src_lt r)) ((r + 1) / 2))

/-- Paid to the receive cell `s` of `c` in round `r` by its left neighbour's copy: the slot at what that neighbour sent, and that
    the neighbour's credit round of that hop is reached. -/
def recvPay (c : Dev nD) (s : ℕ) (hs : s < 2) (r : ℕ) : sProp 𝕄 :=
  iprop(slotAt c s hs (cbuf (B (hopOf s r) (lft c))) ∗ reached ER (credCell (lft c)) (hopOf s r))

/-- Paid to the send cell `s` of `c` in round `r` by its own copy: the source slot back. -/
def sendPay (c : Dev nD) (s : ℕ) (hs : s < 2) (r : ℕ) : sProp 𝕄 := slotAt c s hs (cbuf (B (2 * r + s) c))

/-- Paid to the copy cell of `c` in round `j` by its own local copy: the row block written, and the slot back. -/
def copyPay (c : Dev nD) (j : ℕ) : sProp 𝕄 :=
  iprop(outAt c (blk c j) (blk_lt c j) (outFin B c) ∗ slotAt c (dst (14 + j)) (dst_lt _) (cbuf (B (15 + j) c)))

theorem slot_of {d k : ℕ} (h : k ≤ d ∧ d < k + 2) : d - k < 2 := by omega

/-- The ring's schedule. -/
def sched : Schedule (GSem nD τ sig) Bool 𝕄 where
  duties g r := match g.2 with
    | .reg s => if s.val = 1 then (if r = 0 then Finset.univ else ∅) else (if r < 29 then {false} else ∅)
    | .dma d => if 3 ≤ d.val ∧ d.val < 7 then (if r < 15 then {false} else ∅)
        else if d.val = 7 then (if r < 16 then {false} else ∅) else ∅
  unitless _ := False
  amount g _ _ := match g.2 with
    | .reg _ => 1
    | .dma d => if d.val = 7 then NO else N
  payload g r d := match g.2 with
    | .reg s => if s.val = 1 then barPay g.1.1 d else credPay g.1.1 r
    | .dma s => if h : 3 ≤ s.val ∧ s.val < 5 then sendPay B g.1.1 (s.val - 3) (slot_of h) r
        else if h : 5 ≤ s.val ∧ s.val < 7 then recvPay B g.1.1 (s.val - 5) (slot_of h) r
        else copyPay B g.1.1 r
  amount_pos g r d hd := by
    rcases g with ⟨c, s | s⟩
    · exact Nat.one_pos
    · dsimp only
      split
      · exact NO_pos
      · exact N_pos

instance (g : GSem nD τ sig) (r : ℕ) (d : Bool) : BI.Storable (upEmb : UEmb _ 𝕄) ((sched B).payload g r d) := by
  unfold sched barPay credPay recvPay sendPay copyPay
  rcases g with ⟨c, s | s⟩ <;> (dsimp only; (repeat' split) <;> infer_instance)

end Cert.KernelIdeal.Ring

end
-- ==== Proof.Slots.lean ====
module

public import proofs.«01_k».proof.Proof.Schedule

/-! What the copies, loads and stores of the ring do to a slot's contents and to the result's. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- The index of a slot's element as the squeezed view sees it: a leading zero. -/
theorem squeezed (x : S256x8192.Idx) :
    (Shape.reshapeEquiv squeezes_S1x256x8192_S256x8192.numel_eq x : S1x256x8192.Idx) = Fin.cons (α := fun a => S1x256x8192.Coord a) (0 : Fin 1) x :=
  Shape.reshapeEquiv_cons_one (d := ![256, 8192]) _ x

/-- Where a slot's element lies in the scratch buffer. -/
theorem slot_emb_one (s : ℕ) (hs : s < 2) (x : S256x8192.Idx) : ((slotRef scr s hs).view.emb x 1).val = (x 0).val := by
  show ((slotRect s hs).emb (Shape.reshapeEquiv squeezes_S1x256x8192_S256x8192.numel_eq x) 1).val = _
  rw [squeezed, Rect.emb_apply]
  show 0 + 1 * (x 0).val = _
  omega

theorem slot_emb_two (s : ℕ) (hs : s < 2) (x : S256x8192.Idx) : ((slotRef scr s hs).view.emb x 2).val = (x 1).val := by
  show ((slotRect s hs).emb (Shape.reshapeEquiv squeezes_S1x256x8192_S256x8192.numel_eq x) 2).val = _
  rw [squeezed, Rect.emb_apply]
  show 0 + 1 * (x 1).val = _
  omega

/-- A vector of one slot at a row and a column. -/
def at2 (v : Vec F S1x256x8192 .f32) (i : Fin 256) (j : Fin 8192) : Elt F .f32 := v fun a => match a with
  | 0 => (0 : Fin 1)
  | 1 => i
  | 2 => j

/-- A slot read off contents that hold `v` is `v`. -/
theorem slot_read (s : ℕ) (hs : s < 2) (v : Vec F S1x256x8192 .f32) (x : S256x8192.Idx) :
    (slotRef scr s hs).view.read (Elt F) (cbuf v) x = at2 v (x 0) (x 1) := by
  rw [View.read_apply, cast_eq]
  show at2 v ((slotRef scr s hs).view.emb x 1) ((slotRef scr s hs).view.emb x 2) = _
  exact congrArg₂ (at2 v) (Fin.ext (slot_emb_one s hs x)) (Fin.ext (slot_emb_two s hs x))

/-- Landing what was read of a slot holding `v`: the slot landed in holds `v`. -/
theorem slot_land (s : ℕ) (hs : s < 2) (s' : ℕ) (hs' : s' < 2) (v : Vec F S1x256x8192 .f32) (f) (i)
    (hi : i ∈ (slotRef scr s' hs').view.set) :
    (slotRef scr s' hs').view.write (Elt F) f ((slotRef scr s hs).view.read (Elt F) (cbuf v)) Finset.univ i = cbuf v i := by
  obtain ⟨x, -, rfl⟩ := Finset.mem_map.mp hi
  rw [View.write_emb, if_pos (Finset.mem_univ _), slot_read, cast_eq]
  exact (congrArg₂ (at2 v) (Fin.ext (slot_emb_one s' hs' x)) (Fin.ext (slot_emb_two s' hs' x))).symm

/-- The elements of a slot's view are those of its rectangle. -/
theorem slot_set (s : ℕ) (hs : s < 2) : (slotRef scr s hs).view.set = (slotRect s hs).set := by
  show ((View.slice (View.whole cc0_scratch0) (slotRect s hs)).reshape _ _).set = _
  rw [View.set_reshape, View.set_slice_whole]

theorem access_set (s : ℕ) (hs : s < 2) : (scr.access (slotRect s hs)).set = (slotRect s hs).set := by
  show (View.slice (View.whole cc0_scratch0) (slotRect s hs)).set = _
  rw [View.set_slice_whole]

theorem slot_mem (s : ℕ) (hs : s < 2) (i : S2x256x8192.Idx) : i ∈ (slotRect s hs).set ↔ (i 0).val = s := by
  rw [Rect.mem_set_unit]
  constructor
  · intro h
    have h0 := h 0
    have e : (![s, 0, 0] : Fin 3 → ℕ) 0 = s := rfl
    have e' : S1x256x8192.size 0 = 1 := rfl
    rw [e, e'] at h0
    omega
  · intro h a
    fin_cases a
    · show s ≤ (i 0).val ∧ (i 0).val < s + 1
      omega
    · show 0 ≤ (i 1).val ∧ (i 1).val < 0 + 256
      exact ⟨Nat.zero_le _, by have : (i 1).val < 256 := (i 1).isLt; omega⟩
    · show 0 ≤ (i 2).val ∧ (i 2).val < 0 + 8192
      exact ⟨Nat.zero_le _, by have : (i 2).val < 8192 := (i 2).isLt; omega⟩

theorem idx3 (x : S1x256x8192.Idx) : (fun a => match a with
    | 0 => (0 : Fin 1)
    | 1 => x 1
    | 2 => x 2 : S1x256x8192.Idx) = x := by
  funext a
  fin_cases a
  · exact (Fin.ext (by have : (x 0).val < 1 := (x 0).isLt; show 0 = (x 0).val; omega))
  · rfl
  · rfl

/-- Loading a slot that holds `v` gives `v`. -/
theorem access_read (s : ℕ) (hs : s < 2) (v : Vec F S1x256x8192 .f32) : (scr.access (slotRect s hs)).read (Elt F) (cbuf v) = v := by
  funext x
  rw [View.read_apply, cast_eq]
  show at2 v ((slotRect s hs).emb x 1) ((slotRect s hs).emb x 2) = _
  rw [show ((slotRect s hs).emb x 1 : Fin 256) = x 1 from Fin.ext (by rw [Rect.emb_apply]; show 0 + 1 * (x 1).val = _; omega),
    show ((slotRect s hs).emb x 2 : Fin 8192) = x 2 from Fin.ext (by rw [Rect.emb_apply]; show 0 + 1 * (x 2).val = _; omega)]
  exact congrArg v (idx3 x)

/-- Storing `v` in a slot: the slot holds `v`. -/
theorem access_write (s : ℕ) (hs : s < 2) (v : Vec F S1x256x8192 .f32) (f) (i)
    (hi : i ∈ (slotRect s hs).set) : (scr.access (slotRect s hs)).write (Elt F) f v Finset.univ i = cbuf v i := by
  rw [← access_set s hs] at hi
  obtain ⟨x, -, rfl⟩ := Finset.mem_map.mp hi
  rw [View.write_emb, if_pos (Finset.mem_univ _), cast_eq]
  exact (congrFun (access_read s hs v) x).symm

/-! ## The result -/

theorem out_set (k : ℕ) (hk : k < 16) : (outRef k hk).view.set = (Rect.unit (s := S4096x8192) ![k * 256, 0] S256x8192.size (blk_inb k hk)).set := by
  show (View.slice (View.whole main_v28) _).set = _
  rw [View.set_slice_whole]

theorem out_mem (k : ℕ) (hk : k < 16) (i : S4096x8192.Idx) : i ∈ (outRef k hk).view.set ↔ (i 0).val / 256 = k := by
  rw [out_set, Rect.mem_set_unit]
  constructor
  · intro h
    have h0 := h 0
    have e : (![k * 256, 0] : Fin 2 → ℕ) 0 = k * 256 := rfl
    have e' : S256x8192.size 0 = 256 := rfl
    rw [e, e'] at h0
    omega
  · intro h a
    fin_cases a
    · show k * 256 ≤ (i 0).val ∧ (i 0).val < k * 256 + 256
      omega
    · show 0 ≤ (i 1).val ∧ (i 1).val < 0 + 8192
      exact ⟨Nat.zero_le _, by have : (i 1).val < 8192 := (i 1).isLt; omega⟩

variable (B : ℕ → Dev nD → Vec F S1x256x8192 .f32)

/-- A copy of a slot that holds device `c`'s chunk `j` to that chunk's row block: the block is as in the finished result. -/
theorem out_land (c : Dev nD) (j : ℕ) (hj : j < 16) (s : ℕ) (hs : s < 2) (f) (i) (hi : i ∈ (outRef (blk c j) (blk_lt c j)).view.set) :
    (outRef (blk c j) (blk_lt c j)).view.write (Elt F) f ((slotRef scr s hs).view.read (Elt F) (cbuf (B (15 + j) c))) Finset.univ i = outFin B c i := by
  have hk := (out_mem _ (blk_lt c j) i).mp hi
  obtain ⟨x, -, rfl⟩ := Finset.mem_map.mp hi
  rw [View.write_emb, if_pos (Finset.mem_univ _), slot_read, cast_eq]
  have e0 : ((outRef (blk c j) (blk_lt c j)).view.emb x 0).val = blk c j * 256 + 1 * (x 0).val := rfl
  have e1 : ((outRef (blk c j) (blk_lt c j)).view.emb x 1).val = 0 + 1 * (x 1).val := rfl
  have hx : (x 0).val < 256 := (x 0).isLt
  unfold outFin
  rw [hk, turnOf_blk c j hj]
  show _ = at2 (B (15 + j) c) ⟨((outRef (blk c j) (blk_lt c j)).view.emb x 0).val % 256, _⟩ ((outRef (blk c j) (blk_lt c j)).view.emb x 1)
  refine congrArg₂ (at2 (B (15 + j) c)) (Fin.ext ?_) (Fin.ext ?_)
  · show (x 0).val = ((outRef (blk c j) (blk_lt c j)).view.emb x 0).val % 256
    rw [e0]; omega
  · rw [e1]; omega

theorem turnOf_eq (c : Dev nD) (j : ℕ) (hj : j < 16) (k : ℕ) (hk : k < 16) : turnOf c k = j ↔ k = blk c j := by
  have := c.isLt
  unfold turnOf blk
  rw [Nat.div_eq_of_lt hj]
  omega

/-- On the row block of copy `j`, the result after it is the finished one. -/
theorem outFn_on (c : Dev nD) (f₀) (j : ℕ) (hj : j < 16) (i : S4096x8192.Idx) (hi : i ∈ (outRef (blk c j) (blk_lt c j)).view.set) :
    outFin B c i = outFn B c f₀ (j + 1) i := by
  have hk := (out_mem _ (blk_lt c j) i).mp hi
  unfold outFn outFin
  rw [if_pos]
  rw [hk, turnOf_blk c j hj]; omega

/-- Off it, copy `j` changes nothing. -/
theorem outFn_off (c : Dev nD) (f₀) (j : ℕ) (hj : j < 16) (i : S4096x8192.Idx) (hi : i ∉ (outRef (blk c j) (blk_lt c j)).view.set) :
    outFn B c f₀ j i = outFn B c f₀ (j + 1) i := by
  have hk := fun h => hi ((out_mem _ (blk_lt c j) i).mpr h)
  have hn : turnOf c ((i 0).val / 256) ≠ j := fun h => hk ((turnOf_eq c j hj _ (by have : (i 0).val < 4096 := (i 0).isLt; omega)).mp h)
  unfold outFn
  by_cases h : turnOf c ((i 0).val / 256) < j
  · rw [if_pos h, if_pos (by omega)]
  · rw [if_neg h, if_neg (by omega)]

end Cert.KernelIdeal.Ring

end
-- ==== Proof.Accounts.lean ====
module

public import proofs.«01_k».proof.Proof.Slots

/-! What the schedule says of each cell, what each device owes before each hop, and that no wait of the ring is on a cell
    at or above the level of anything still owed. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (B : ℕ → Dev nD → Vec F S1x256x8192 .f32)

/-! ## Each cell's rounds -/

section Read
variable (c : Dev nD)

theorem duties_bar : (sched B).duties (barCell c) 0 = Finset.univ := rfl
theorem duties_cred (r : ℕ) (hr : r < 29) : (sched B).duties (credCell c) r = {false} := if_pos hr
theorem duties_send (s : ℕ) (hs : s < 2) (r : ℕ) (hr : r < 15) : (sched B).duties (sendCell c s hs) r = {false} := by
  dsimp only [sched]
  rw [if_pos (by rw [sendS_val]; omega), if_pos hr]
theorem duties_recv (s : ℕ) (hs : s < 2) (r : ℕ) (hr : r < 15) : (sched B).duties (recvCell c s hs) r = {false} := by
  dsimp only [sched]
  rw [if_pos (by rw [recvS_val]; omega), if_pos hr]
theorem duties_copy (r : ℕ) (hr : r < 16) : (sched B).duties (copyCell c) r = {false} := if_pos hr

theorem no_bar : ∀ r, 1 ≤ r → (sched B).duties (barCell c) r = ∅ := fun r hr => if_neg (show ¬ r = 0 by omega)
theorem no_cred : ∀ r, 29 ≤ r → (sched B).duties (credCell c) r = ∅ := fun r hr => if_neg (Nat.not_lt.mpr hr)
theorem no_send (s : ℕ) (hs : s < 2) : ∀ r, 15 ≤ r → (sched B).duties (sendCell c s hs) r = ∅ := fun r hr => by
  dsimp only [sched]
  rw [if_pos (by rw [sendS_val]; omega), if_neg (Nat.not_lt.mpr hr)]
theorem no_recv (s : ℕ) (hs : s < 2) : ∀ r, 15 ≤ r → (sched B).duties (recvCell c s hs) r = ∅ := fun r hr => by
  dsimp only [sched]
  rw [if_pos (by rw [recvS_val]; omega), if_neg (Nat.not_lt.mpr hr)]
theorem no_copy : ∀ r, 16 ≤ r → (sched B).duties (copyCell c) r = ∅ := fun r hr => if_neg (Nat.not_lt.mpr hr)

theorem amount_bar (r : ℕ) (d : Bool) : (sched B).amount (barCell c) r d = 1 := rfl
theorem amount_cred (r : ℕ) (d : Bool) : (sched B).amount (credCell c) r d = 1 := rfl
theorem amount_send (s : ℕ) (hs : s < 2) (r : ℕ) (d : Bool) : (sched B).amount (sendCell c s hs) r d = N := by
  dsimp only [sched]; rw [if_neg (by rw [sendS_val]; omega)]
theorem amount_recv (s : ℕ) (hs : s < 2) (r : ℕ) (d : Bool) : (sched B).amount (recvCell c s hs) r d = N := by
  dsimp only [sched]; rw [if_neg (by rw [recvS_val]; omega)]
theorem amount_copy (r : ℕ) (d : Bool) : (sched B).amount (copyCell c) r d = NO := rfl

theorem payload_bar (r : ℕ) (d : Bool) : (sched B).payload (barCell c) r d = barPay c d := rfl
theorem payload_cred (r : ℕ) (d : Bool) : (sched B).payload (credCell c) r d = credPay c r := rfl
theorem sendPay_congr (s s' : ℕ) (hs : s < 2) (hs' : s' < 2) (e : s = s') (r : ℕ) : sendPay B c s hs r = sendPay B c s' hs' r := by subst e; rfl
theorem recvPay_congr (s s' : ℕ) (hs : s < 2) (hs' : s' < 2) (e : s = s') (r : ℕ) : recvPay B c s hs r = recvPay B c s' hs' r := by subst e; rfl
theorem payload_send (s : ℕ) (hs : s < 2) (r : ℕ) (d : Bool) : (sched B).payload (sendCell c s hs) r d = sendPay B c s hs r := by
  dsimp only [sched]
  rw [dif_pos (show 3 ≤ (sendS s hs).val ∧ (sendS s hs).val < 5 by rw [sendS_val]; omega)]
  exact sendPay_congr B c _ _ _ _ (by rw [sendS_val]; omega) r
theorem payload_recv (s : ℕ) (hs : s < 2) (r : ℕ) (d : Bool) : (sched B).payload (recvCell c s hs) r d = recvPay B c s hs r := by
  dsimp only [sched]
  rw [dif_neg (show ¬ (3 ≤ (recvS s hs).val ∧ (recvS s hs).val < 5) by rw [recvS_val]; omega),
    dif_pos (show 5 ≤ (recvS s hs).val ∧ (recvS s hs).val < 7 by rw [recvS_val]; omega)]
  exact recvPay_congr B c _ _ _ _ (by rw [recvS_val]; omega) r
theorem payload_copy (r : ℕ) (d : Bool) : (sched B).payload (copyCell c) r d = copyPay B c r := rfl

theorem expect_bar : (sched B).expect (barCell c) 0 = 2 := rfl
theorem expect_cred (r : ℕ) (hr : r < 29) : (sched B).expect (credCell c) r = 1 := by
  unfold Schedule.expect Schedule.amountOf; rw [duties_cred B c r hr, Finset.sum_singleton, amount_cred]
theorem expect_send (s : ℕ) (hs : s < 2) (r : ℕ) (hr : r < 15) : (sched B).expect (sendCell c s hs) r = N := by
  unfold Schedule.expect Schedule.amountOf; rw [duties_send B c s hs r hr, Finset.sum_singleton, amount_send]
theorem expect_recv (s : ℕ) (hs : s < 2) (r : ℕ) (hr : r < 15) : (sched B).expect (recvCell c s hs) r = N := by
  unfold Schedule.expect Schedule.amountOf; rw [duties_recv B c s hs r hr, Finset.sum_singleton, amount_recv]
theorem expect_copy (r : ℕ) (hr : r < 16) : (sched B).expect (copyCell c) r = NO := by
  unfold Schedule.expect Schedule.amountOf; rw [duties_copy B c r hr, Finset.sum_singleton, amount_copy]

theorem rest_bar : bigSep ((sched B).duties (barCell c) 0 \ ∅) (fun d => (sched B).payload (barCell c) 0 d) ⊢ barPay (F := F) c true := by
  rw [Finset.sdiff_empty, duties_bar, show (Finset.univ : Finset Bool) = insert true {false} from rfl,
    bigSep_insert (by decide), bigSep_singleton]
  exact sep_elim_left
theorem rest_cred (r : ℕ) (hr : r < 29) : bigSep ((sched B).duties (credCell c) r \ ∅) (fun d => (sched B).payload (credCell c) r d) = credPay c r := by
  rw [Finset.sdiff_empty, duties_cred B c r hr, bigSep_singleton, payload_cred]
theorem rest_send (s : ℕ) (hs : s < 2) (r : ℕ) (hr : r < 15) :
    bigSep ((sched B).duties (sendCell c s hs) r \ ∅) (fun d => (sched B).payload (sendCell c s hs) r d) = sendPay B c s hs r := by
  rw [Finset.sdiff_empty, duties_send B c s hs r hr, bigSep_singleton, payload_send]
theorem rest_recv (s : ℕ) (hs : s < 2) (r : ℕ) (hr : r < 15) :
    bigSep ((sched B).duties (recvCell c s hs) r \ ∅) (fun d => (sched B).payload (recvCell c s hs) r d) = recvPay B c s hs r := by
  rw [Finset.sdiff_empty, duties_recv B c s hs r hr, bigSep_singleton, payload_recv]
theorem rest_copy (r : ℕ) (hr : r < 16) : bigSep ((sched B).duties (copyCell c) r \ ∅) (fun d => (sched B).payload (copyCell c) r d) = copyPay B c r := by
  rw [Finset.sdiff_empty, duties_copy B c r hr, bigSep_singleton, payload_copy]

end Read

/-! ## Levels -/

/-- The indices a TensorCore's cell is waited at. -/
def L (g : GSem nD τ sig) : Finset ℕ := if g.1.2 = .tc then Finset.range 30 else ∅

/-- The level of a wait: the barrier's 1; a receive's at hop `h` 2h + 2; a credit's of hop `h` 2h + 3; any other 0. -/
def lv (g : GSem nD τ sig) (i : ℕ) : ℕ := match g.2 with
  | .reg s => if s.val = 1 then 1 else 2 * i + 3
  | .dma d => if 5 ≤ d.val ∧ d.val < 7 then 2 * i + 2 else 0

theorem L_of_ne (g : GSem nD τ sig) (h : g.1.2 ≠ .tc) : L g = ∅ := if_neg h
theorem L_tc (c : Dev nD) (sm : SemLoc sig) : L ((c : Thread nD τ), sm) = Finset.range 30 := if_pos rfl

theorem lv_bar (c : Dev nD) (i : ℕ) : lv (barCell c) i = 1 := rfl
theorem lv_cred (c : Dev nD) (i : ℕ) : lv (credCell c) i = 2 * i + 3 := rfl
theorem lv_copy (c : Dev nD) (i : ℕ) : lv (copyCell c) i = 0 := rfl
theorem lv_recv (c : Dev nD) (s : ℕ) (hs : s < 2) (i : ℕ) : lv (recvCell c s hs) i = 2 * i + 2 := by
  dsimp only [lv]; rw [if_pos (by rw [recvS_val]; omega)]
theorem lv_send (c : Dev nD) (s : ℕ) (hs : s < 2) (i : ℕ) : lv (sendCell c s hs) i = 0 := by
  dsimp only [lv]; rw [if_neg (by rw [sendS_val]; omega)]

/-- Everything in `O` is owed to a cell above level `b`. -/
def Above (b : ℕ) (O : CellTallies nD τ sig ℕ) : Prop := ∀ g ι, 0 < O g ι → ι ∈ L g ∧ b < lv g ι

theorem above_zero (b : ℕ) : Above b 0 := fun _ _ h => absurd h (Nat.lt_irrefl 0)
theorem above_add {b : ℕ} {O O' : CellTallies nD τ sig ℕ} (h : Above b O) (h' : Above b O') : Above b (O + O') := fun g ι hp => by
  have hp' : 0 < O g ι + O' g ι := hp
  rcases Nat.eq_zero_or_pos (O g ι) with e | e
  · exact h' g ι (by omega)
  · exact h g ι e
theorem above_mono {b b' : ℕ} (hb : b ≤ b') {O : CellTallies nD τ sig ℕ} (h : Above b' O) : Above b O :=
  fun g ι hp => ⟨(h g ι hp).1, lt_of_le_of_lt hb (h g ι hp).2⟩
theorem above_tally {b : ℕ} (c : Dev nD) (sm : SemLoc sig) (i k : ℕ) (hi : i < 30) (hb : b < lv ((c : Thread nD τ), sm) i) :
    Above b (tallyAt ((c : Thread nD τ), sm) i k) := fun g ι hp => by
  rw [tallyAt_apply] at hp
  by_cases h : g = ((c : Thread nD τ), sm) ∧ ι = i
  · rw [h.1, h.2, L_tc]
    exact ⟨Finset.mem_range.mpr hi, hb⟩
  · rw [if_neg h] at hp; exact absurd hp (Nat.lt_irrefl 0)

/-- A wait below everything owed is allowed. -/
theorem mayWait (c : Dev nD) (sm : SemLoc sig) (i b : ℕ) (O : CellTallies nD τ sig ℕ) (hi : i < 30)
    (hb : lv ((c : Thread nD τ), sm) i ≤ b) (hO : Above b O) : (levAts L lv : sProp 𝕄) ⊢ MayWait (c : Thread nD τ) sm i O :=
  MayOwe.of_cut (L := L) (lev := lv) b
    (fun p hp => by rw [Finset.mem_singleton.mp hp, L_tc]; exact Finset.mem_range.mpr hi)
    (fun g u hg => (hO g u hg).1)
    (fun p hp => by rw [Finset.mem_singleton.mp hp]; exact hb)
    (fun g u hg => (hO g u hg).2)

theorem ico_head {a b : ℕ} (h : a < b) : Finset.Ico a b = insert a (Finset.Ico (a + 1) b) := by
  ext x; simp only [Finset.mem_insert, Finset.mem_Ico]; omega

/-! ## What a device owes -/

/-- Owed at hop `h` for the copy: the right neighbour's receive. -/
def copyDue (c : Dev nD) (h : ℕ) : CellTallies nD τ sig ℕ := tallyAt (recvCell (rgt c) (dst h) (dst_lt h)) h N
/-- Owed at hop `h` for its credit: the left neighbour's, but after the last hop none. -/
def credDue (c : Dev nD) (h : ℕ) : CellTallies nD τ sig ℕ := if h < 29 then tallyAt (credCell (lft c)) h 1 else 0
/-- Owed from hop `h` on. -/
def owe (c : Dev nD) (h : ℕ) : CellTallies nD τ sig ℕ := ∑ k ∈ Finset.Ico h 30, (credDue c k + copyDue c k)

theorem owe_step (c : Dev nD) (h : ℕ) (hh : h < 30) : owe c h = (owe c (h + 1) + credDue c h) + copyDue c h := by
  unfold owe
  rw [ico_head hh, Finset.sum_insert (by simp), add_comm, add_assoc]
theorem owe_end (c : Dev nD) : owe c 30 = 0 := by unfold owe; rw [Finset.Ico_self, Finset.sum_empty]

theorem above_copyDue (c : Dev nD) (h : ℕ) (hh : h < 30) : Above (2 * h + 1) (copyDue c h) :=
  above_tally _ _ _ _ hh (by rw [lv_recv]; omega)
theorem above_credDue (c : Dev nD) (h : ℕ) : Above (2 * h + 2) (credDue c h) := by
  unfold credDue
  by_cases hh : h < 29
  · rw [if_pos hh]
    exact above_tally _ _ _ _ (by omega) (by rw [lv_cred]; omega)
  · rw [if_neg hh]; exact above_zero _

theorem above_sum (b : ℕ) (s : Finset ℕ) (O : ℕ → CellTallies nD τ sig ℕ) (h : ∀ k ∈ s, Above b (O k)) : Above b (∑ k ∈ s, O k) := by
  induction s using Finset.induction_on with
  | empty => exact above_zero b
  | insert a s ha ih =>
    rw [Finset.sum_insert ha]
    exact above_add (h a (Finset.mem_insert_self a s)) (ih fun k hk => h k (Finset.mem_insert_of_mem hk))

theorem above_owe (c : Dev nD) (h : ℕ) : Above (2 * h + 1) (owe c h) :=
  above_sum _ _ _ fun k hk => by
    have := Finset.mem_Ico.mp hk
    exact above_add (above_mono (by omega) (above_credDue c k)) (above_mono (by omega) (above_copyDue c k this.2))

/-! ## What a device holds for its hops -/

/-- Held for hop `h`'s copy: the right to pay both its rounds, and the credit to wait for the one that lands here. -/
def hopTok (c : Dev nD) (h : ℕ) : sProp 𝕄 :=
  iprop(dutyTok ER (sendCell c (src h) (src_lt h)) (h / 2) false ∗ dutyTok ER (recvCell (rgt c) (dst h) (dst_lt h)) (h / 2) false
    ∗ cred (tallyAt (recvCell c (dst h) (dst_lt h)) h N))
/-- Held for the credit after hop `h`: the right to give the left neighbour's, and the credit to wait for the own. -/
def turnTok (c : Dev nD) (h : ℕ) : sProp 𝕄 :=
  iprop(dutyTok ER (credCell (lft c)) h false ∗ cred (tallyAt (credCell c) h 1))
/-- Held for local copy `j`. -/
def copyTok (c : Dev nD) (j : ℕ) : sProp 𝕄 := dutyTok ER (copyCell c) j false

theorem take {Φ : ℕ → sProp 𝕄} {a b : ℕ} (h : a < b) :
    bigSep (Finset.Ico a b) Φ ⊢ iprop(Φ a ∗ bigSep (Finset.Ico (a + 1) b) Φ) := by
  rw [ico_head h]
  exact Entails.of_eq (bigSep_insert (by simp))

end Cert.KernelIdeal.Ring

end
-- ==== Proof.Exchange.lean ====
module

public import proofs.«01_k».proof.Proof.Accounts

/-! One hop of the ring at a symbolic device: the remote copy with its two waits, and the credit between two hops. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-! ## All cells of the ring -/

/-- The semaphores opened before the kernel runs. -/
def outer : Finset (SemLoc sig) := {.reg barS}
/-- The kernel's own semaphores. -/
def inner : Finset (SemLoc sig) := {.reg credS, .dma 3, .dma 4, .dma 5, .dma 6, .dma 7}

/-- Every device's cell of a semaphore in `T`. -/
def cellsOf (T : Finset (SemLoc sig)) : Finset (GSem nD τ sig) :=
  (Finset.univ ×ˢ T).map ⟨fun p : Dev nD × SemLoc sig => ((p.1 : Thread nD τ), p.2), fun p q h => by
    have h1 := congrArg (fun g : GSem nD τ sig => g.1.1) h
    have h2 := congrArg (fun g : GSem nD τ sig => g.2) h
    exact Prod.ext h1 h2⟩

theorem mem_cellsOf (T : Finset (SemLoc sig)) (c : Dev nD) (sm : SemLoc sig) (h : sm ∈ T) : ((c : Thread nD τ), sm) ∈ cellsOf T :=
  Finset.mem_map.mpr ⟨(c, sm), Finset.mem_product.mpr ⟨Finset.mem_univ _, h⟩, rfl⟩

abbrev allCells : Finset (GSem nD τ sig) := cellsOf outer ∪ cellsOf inner

theorem bar_mem (c : Dev nD) : barCell c ∈ allCells := Finset.mem_union_left _ (mem_cellsOf _ c _ (by decide))
theorem cred_mem (c : Dev nD) : credCell c ∈ allCells := Finset.mem_union_right _ (mem_cellsOf _ c _ (by decide))
theorem copy_mem (c : Dev nD) : copyCell c ∈ allCells := Finset.mem_union_right _ (mem_cellsOf _ c _ (by decide))
theorem send_mem (c : Dev nD) (s : ℕ) (hs : s < 2) : sendCell c s hs ∈ allCells :=
  Finset.mem_union_right _ (mem_cellsOf _ c _ ((by decide : ∀ s : Fin 2, SemLoc.dma (sendS s.val s.isLt) ∈ inner) ⟨s, hs⟩))
theorem recv_mem (c : Dev nD) (s : ℕ) (hs : s < 2) : recvCell c s hs ∈ allCells :=
  Finset.mem_union_right _ (mem_cellsOf _ c _ ((by decide : ∀ s : Fin 2, SemLoc.dma (recvS s.val s.isLt) ∈ inner) ⟨s, hs⟩))

variable (B : ℕ → Dev nD → Vec F S1x256x8192 .f32)

/-- Every cell's invariant, at the names the launch chose. -/
def invs (K : GSem nD τ sig → ℕ) : sProp 𝕄 := bigSep allCells fun g => cellInv ER (sched B) (K g) g

instance (K : GSem nD τ sig → ℕ) : BI.Persistent (invs B K) := by unfold invs; infer_instance

theorem inv_of (K : GSem nD τ sig → ℕ) (g : GSem nD τ sig) (h : g ∈ allCells) : invs B K ⊢ cellInv ER (sched B) (K g) g :=
  bigSep_elim h

/-! ## Where a device stands on its send and receive cells before hop `h` -/

theorem slot_congr (c : Dev nD) {s s' : ℕ} (e : s = s') (hs : s < 2) (hs' : s' < 2) (f) : slotAt (F := F) c s hs f = slotAt c s' hs' f := by
  subst e; rfl

theorem src_succ (h : ℕ) : src (h + 1) = dst h := rfl
theorem dst_succ (h : ℕ) : dst (h + 1) = src h := by unfold dst src; omega
theorem half_succ (h : ℕ) : (h + 1 + 1) / 2 = h / 2 + 1 := by omega

/-- On send cell `s` (or receive cell `s`): at round `r`, which is reached. -/
def onSend (c : Dev nD) (s : ℕ) (hs : s < 2) (r : ℕ) : sProp 𝕄 := iprop(atPos ER (sendCell c s hs) r ∅ 0 ∗ reached ER (sendCell c s hs) r)
def onRecv (c : Dev nD) (s : ℕ) (hs : s < 2) (r : ℕ) : sProp 𝕄 := iprop(atPos ER (recvCell c s hs) r ∅ 0 ∗ reached ER (recvCell c s hs) r)

theorem onSend_congr (c : Dev nD) {s s' r r' : ℕ} (e : s = s') (er : r = r') (hs : s < 2) (hs' : s' < 2) :
    onSend (F := F) c s hs r = onSend c s' hs' r' := by subst e; subst er; rfl
theorem onRecv_congr (c : Dev nD) {s s' r r' : ℕ} (e : s = s') (er : r = r') (hs : s < 2) (hs' : s' < 2) :
    onRecv (F := F) c s hs r = onRecv c s' hs' r' := by subst e; subst er; rfl

def sendPos (c : Dev nD) (h : ℕ) : sProp 𝕄 :=
  iprop(onSend c (src h) (src_lt h) (h / 2) ∗ onSend c (dst h) (dst_lt h) ((h + 1) / 2))
def recvPos (c : Dev nD) (h : ℕ) : sProp 𝕄 :=
  iprop(onRecv c (dst h) (dst_lt h) (h / 2) ∗ onRecv c (src h) (src_lt h) ((h + 1) / 2))

theorem sendPos_succ (c : Dev nD) (h : ℕ) :
    iprop(onSend c (src h) (src_lt h) (h / 2 + 1) ∗ onSend c (dst h) (dst_lt h) ((h + 1) / 2)) ⊢ sendPos (F := F) c (h + 1) := by
  unfold sendPos
  rw [onSend_congr c (dst_succ h) (half_succ h) (dst_lt (h + 1)) (src_lt h), onSend_congr c (src_succ h) rfl (src_lt (h + 1)) (dst_lt h)]
  iintro ⟨H, G⟩
  isplitl [G]; · iexact G
  iexact H

theorem recvPos_succ (c : Dev nD) (h : ℕ) :
    iprop(onRecv c (dst h) (dst_lt h) (h / 2 + 1) ∗ onRecv c (src h) (src_lt h) ((h + 1) / 2)) ⊢ recvPos (F := F) c (h + 1) := by
  unfold recvPos
  rw [onRecv_congr c (dst_succ h) rfl (dst_lt (h + 1)) (src_lt h), onRecv_congr c (src_succ h) (half_succ h) (src_lt (h + 1)) (dst_lt h)]
  iintro ⟨H, G⟩
  isplitl [G]; · iexact G
  iexact H

theorem hopOf_dst (h : ℕ) : hopOf (dst h) (h / 2) = h := by unfold hopOf dst; omega
theorem hopOf_src (h : ℕ) : 2 * (h / 2) + src h = h := by unfold src; omega

theorem recvPay_hop (c : Dev nD) (h : ℕ) : recvPay B c (dst h) (dst_lt h) (h / 2)
    = iprop(slotAt c (dst h) (dst_lt h) (cbuf (B h (lft c))) ∗ reached ER (credCell (lft c)) h) := by
  unfold recvPay; rw [hopOf_dst]
theorem sendPay_hop (c : Dev nD) (h : ℕ) : sendPay B c (src h) (src_lt h) (h / 2) = slotAt c (src h) (src_lt h) (cbuf (B h c)) := by
  unfold sendPay; rw [hopOf_src]

/-! ## The copy and its waits -/

/-- What hop `h`'s exchange needs. -/
def exchangePre (K : GSem nD τ sig → ℕ) (c : Dev nD) (h : ℕ) (W : Waits sig ℕ) : sProp 𝕄 :=
  iprop(invs B K ∗ levAts L lv ∗ hopTok c h ∗ slotAt c (src h) (src_lt h) (cbuf (B h c))
    ∗ (∃ f, slotAt (rgt c) (dst h) (dst_lt h) f) ∗ reached ER (recvCell (rgt c) (dst h) (dst_lt h)) (h / 2)
    ∗ reached ER (credCell c) h ∗ sendPos c h ∗ recvPos c h ∗ owes (c : Thread nD τ) (owe c h) W)

/-- What it leaves: the slot sent, the slot landed holding what the left neighbour sent, the hop's credit still owed. -/
def exchangePost (c : Dev nD) (h : ℕ) : sProp 𝕄 :=
  iprop(slotAt c (src h) (src_lt h) (cbuf (B h c)) ∗ slotAt c (dst h) (dst_lt h) (cbuf (B h (lft c)))
    ∗ reached ER (credCell (lft c)) h ∗ sendPos c (h + 1) ∗ recvPos c (h + 1)
    ∗ ∃ W, owes (c : Thread nD τ) (owe c (h + 1) + credDue c h) W)

theorem above_rest (c : Dev nD) (h : ℕ) : Above (2 * h + 2) (owe c (h + 1) + credDue c h) :=
  above_add (above_mono (by omega) (above_owe c (h + 1))) (above_credDue c h)

set_option maxHeartbeats 1600000 in
theorem exchange_run (K : GSem nD τ sig → ℕ) (c : Dev nD) (h : ℕ) (hh : h < 30) (W : Waits sig ℕ) (Q : PUnit → sProp 𝕄) :
    iprop(exchangePre B K c h W ∗ (exchangePost B c h -∗ Q ⟨⟩))
      ⊢ wp frame (wpE (defs₀ (F := F)) 𝒱₀ c none) Set.univ (exchange (F := F) scr cc0_scratch1 cc0_scratch2 h (rgt c)) Q := by
  have hr : h / 2 < 15 := by omega
  unfold exchange exchangePre hopTok
  iintro ⟨⟨#HI, #Hlev, ⟨HtS, HtR, HcR⟩, Hs, ⟨%fd, Hd⟩, #HrR, #HrC, HsP, HrP, HO⟩, Hk⟩
  unfold sendPos recvPos onSend onRecv
  icases HsP with ⟨⟨HaS, #HrS⟩, HsO⟩
  icases HrP with ⟨⟨HaR, #HrV⟩, HrO⟩
  rw [owe_step c h hh]
  iapply (Rounds.wp_send_pointsTo_with 𝒱₀ ER (sched B) (c : Thread nD τ) none (c' := (rgt c : Thread nD τ))
      (src := slotRef scr (src h) (src_lt h)) (dst := slotRef scr (dst h) (dst_lt h))
      (sS := .dma (sendS (src h) (src_lt h))) (sem := .dma (recvS (dst h) (dst_lt h))) (q := fullShare)
      (fs := cbuf (B h c)) (fd := fd) (F := reached ER (credCell c) h)
      (κ₁ := K (sendCell c (src h) (src_lt h))) (κ₂ := K (recvCell (rgt c) (dst h) (dst_lt h)))
      (r₁ := h / 2) (r₂ := h / 2) (d₁ := false) (d₂ := false)
      (by rw [duties_send B _ _ _ _ hr]; exact Finset.mem_singleton_self _) (by rw [duties_recv B _ _ _ _ hr]; exact Finset.mem_singleton_self _)
      h 0 N rfl (amount_send B c _ _ _ _) (amount_recv B (rgt c) _ _ _ _) (owe c (h + 1) + credDue c h) rfl (W := W)
      (by rw [payload_send, sendPay_hop])
      (by
        rw [payload_recv, recvPay_hop, lft_rgt]
        exact sep_mono_left (Entails.of_eq (pointsTo_congr fun i hi => slot_land _ _ _ _ _ _ i hi)))) $$ [Hs Hd HO HtS HtR]
  · isplitr; · iapply (inv_of B K _ (send_mem c _ _)); iexact HI
    isplitr; · iapply (inv_of B K _ (recv_mem (rgt c) _ _)); iexact HI
    isplitl [Hs]; · iexact Hs
    isplitl [Hd]
    · isplitl [Hd]; · iexact Hd
      iexact HrC
    isplitl [HO]; · iexact HO
    isplitl [HtS]; · iexact HtS
    isplitr; · iexact HrS
    isplitl [HtR]; · iexact HtR
    iexact HrR
  iintro ⟨HcS, HO⟩
  iapply (Rounds.wp_wait_rest_token 𝒱₀ ER (sched B) (c : Thread nD τ) none (κ := K (sendCell c (src h) (src_lt h)))
      (wpE_waitDma2_eq (src := slotRef scr (dst h) (dst_lt h)) (dst := slotRef scr (src h) (src_lt h)) 𝒱₀ (c : Thread nD τ) none Set.univ) (Set.mem_univ _) 0
      (O := owe c (h + 1) + credDue c h) (W := W) (R := h / 2) (m := 0) (T := ∅)
      ((Nat.zero_add _).trans (expect_send B c _ _ _ hr).symm)) $$ [HcS HO HaS]
  · isplitr; · iapply (inv_of B K _ (send_mem c _ _)); iexact HI
    isplitl [HcS]; · iexact HcS
    isplitl [HO]; · iexact HO
    isplitr
    · iapply (mayWait c _ 0 0 _ (by decide) (le_of_eq (lv_send c _ _ 0)) (above_mono (Nat.zero_le _) (above_rest c h))); iexact Hlev
    iexact HaS
  iintro ⟨HO, HaS, #HrS1, Hpay⟩
  ihave Hs := (Entails.of_eq ((rest_send B c _ _ _ hr).trans (sendPay_hop B c h))) $$ Hpay
  iapply (Rounds.wp_wait_rest_token 𝒱₀ ER (sched B) (c : Thread nD τ) none (κ := K (recvCell c (dst h) (dst_lt h)))
      (wpE_waitDma2_eq (src := slotRef scr (src h) (src_lt h)) (dst := slotRef scr (dst h) (dst_lt h)) 𝒱₀ (c : Thread nD τ) none Set.univ) (Set.mem_univ _) h
      (O := owe c (h + 1) + credDue c h) (R := h / 2) (m := 0) (T := ∅)
      ((Nat.zero_add _).trans (expect_recv B c _ _ _ hr).symm)) $$ [HcR HO HaR]
  · isplitr; · iapply (inv_of B K _ (recv_mem c _ _)); iexact HI
    isplitl [HcR]; · iexact HcR
    isplitl [HO]; · iexact HO
    isplitr
    · iapply (mayWait c _ h (2 * h + 2) _ hh (le_of_eq (lv_recv c _ _ h)) (above_rest c h)); iexact Hlev
    iexact HaR
  iintro ⟨HO, HaR, #HrR1, Hpay⟩
  ihave Hp := (Entails.of_eq ((rest_recv B c _ _ _ hr).trans (recvPay_hop B c h))) $$ Hpay
  icases Hp with ⟨Hd, #HrL⟩
  rw [wp_ret]
  imodintro
  iapply Hk
  unfold exchangePost
  isplitl [Hs]; · iexact Hs
  isplitl [Hd]; · iexact Hd
  isplitr; · iexact HrL
  isplitl [HaS HsO]
  · iapply (sendPos_succ c h)
    unfold onSend
    isplitl [HaS]
    · isplitl [HaS]; · iexact HaS
      iexact HrS1
    iexact HsO
  isplitl [HaR HrO]
  · iapply (recvPos_succ c h)
    unfold onRecv
    isplitl [HaR]
    · isplitl [HaR]; · iexact HaR
      iexact HrR1
    iexact HrO
  iexists _; iexact HO

/-! ## The credit between two hops -/

/-- What the credit after hop `h` needs: the slot just sent, to hand to the left neighbour. -/
def turnPre (K : GSem nD τ sig → ℕ) (c : Dev nD) (h : ℕ) (W : Waits sig ℕ) : sProp 𝕄 :=
  iprop(invs B K ∗ levAts L lv ∗ turnTok c h ∗ (∃ f, slotAt c (src h) (src_lt h) f) ∗ reached ER (recvCell c (src h) (src_lt h)) ((h + 1) / 2)
    ∗ reached ER (credCell (lft c)) h ∗ atPos ER (credCell c) h ∅ 0 ∗ owes (c : Thread nD τ) (owe c (h + 1) + credDue c h) W)

/-- What it leaves: the right neighbour's slot for the next hop. -/
def turnPost (c : Dev nD) (h : ℕ) : sProp 𝕄 :=
  iprop((∃ f, slotAt (rgt c) (src h) (src_lt h) f) ∗ reached ER (recvCell (rgt c) (src h) (src_lt h)) ((h + 1) / 2)
    ∗ atPos ER (credCell c) (h + 1) ∅ 0 ∗ reached ER (credCell c) (h + 1) ∗ ∃ W, owes (c : Thread nD τ) (owe c (h + 1)) W)

set_option maxHeartbeats 800000 in
theorem turn_run (K : GSem nD τ sig → ℕ) (c : Dev nD) (h : ℕ) (hh : h < 29) (W : Waits sig ℕ) (Q : PUnit → sProp 𝕄) :
    iprop(turnPre B K c h W ∗ (turnPost c h -∗ Q ⟨⟩))
      ⊢ wp frame (wpE (defs₀ (F := F)) 𝒱₀ c none) Set.univ (turn (F := F) cc0_scratch3 (lft c)) Q := by
  unfold turn semSignalWord semWaitWord turnPre turnTok
  rw [show credDue c h = tallyAt (credCell (lft c)) h 1 from if_pos hh]
  iintro ⟨⟨#HI, #Hlev, ⟨HtC, HcC⟩, Hs, #HrR, #HrL, HaC, HO⟩, Hk⟩
  iapply (Rounds.wp_signal 𝒱₀ ER (sched B) (c : Thread nD τ) none (dst := (lft c : Thread nD τ)) (sem := credS) (r := h) (d := false) (κ := K (credCell (lft c)))
      (by rw [duties_cred B _ _ hh]; exact Finset.mem_singleton_self _) (amount_cred B (lft c) h false) h (owe c (h + 1))
      rfl) $$ [HO HtC Hs]
  · isplitr; · iapply (inv_of B K _ (cred_mem (lft c))); iexact HI
    isplitl [HO]; · iexact HO
    isplitl [HtC]; · iexact HtC
    isplitl [Hs]
    · rw [payload_cred]; unfold credPay; rw [rgt_lft]
      isplitl [Hs]; · iexact Hs
      iexact HrR
    · iexact HrL
  iintro HO
  iapply (Rounds.wp_wait_rest_token 𝒱₀ ER (sched B) (c : Thread nD τ) none (κ := K (credCell c))
      (wpE_semWait_eq 𝒱₀ (c : Thread nD τ) none Set.univ) (Set.mem_univ _) h (O := owe c (h + 1)) (W := W) (R := h) (m := 0) (T := ∅)
      ((Nat.zero_add 1).trans (expect_cred B c h hh).symm)) $$ [HcC HO HaC]
  · isplitr; · iapply (inv_of B K _ (cred_mem c)); iexact HI
    isplitl [HcC]; · iexact HcC
    isplitl [HO]; · iexact HO
    isplitr
    · iapply (mayWait c _ h (2 * h + 3) _ (by omega) (le_of_eq (lv_cred c h)) (above_mono (by omega) (above_owe c (h + 1)))); iexact Hlev
    iexact HaC
  iintro ⟨HO, HaC, #HrC1, Hpay⟩
  ihave Hp := (Entails.of_eq (rest_cred B c h hh)) $$ Hpay
  unfold credPay
  icases Hp with ⟨Hd, #HrN⟩
  rw [wp_ret]
  imodintro
  iapply Hk
  unfold turnPost
  isplitl [Hd]; · iexact Hd
  isplitr; · iexact HrN
  isplitl [HaC]; · iexact HaC
  isplitr; · iexact HrC1
  iexists _; iexact HO

end Cert.KernelIdeal.Ring

end
-- ==== Proof.Settle.lean ====
module

public import proofs.«01_k».proof.Proof.Exchange

/-! What a hop does with the slot it received: a reduce-scatter hop adds the device's own partial product, the last of
    them and every all-gather hop copies the slot to its row block of the result. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The values -/

theorem rows_inb (k : ℕ) (hk : k < 16) : ∀ a, (![k * 256, 0] : Fin 2 → ℕ) a + S256x256.size a ≤ S4096x256.size a := by
  intro a; fin_cases a
  · show k * 256 + 256 ≤ 4096; omega
  · show 0 + 256 ≤ 256; omega

/-- Row block `k` of a device's share of the left operand. -/
def rowsOf (X : Vec F S4096x256 .f32) (k : ℕ) (hk : k < 16) : Vec F S256x256 .f32 :=
  fun j => X ((Rect.unit (s := S4096x256) ![k * 256, 0] S256x256.size (rows_inb k hk)).emb j)

/-- The row block that hop `h` of the reduce-scatter accumulates on device `c`. -/
def chunk (c : Dev nD) (h : ℕ) : ℕ := (c.val + 16 * (h / 16 + 2) - 2 - h) % 16
theorem chunk_lt (c : Dev nD) (h : ℕ) : chunk c h < 16 := Nat.mod_lt _ (by decide)
/-- The row block that device `c` starts with. -/
def chunk0 (c : Dev nD) : ℕ := (c.val + 15) % 16
theorem chunk0_lt (c : Dev nD) : chunk0 c < 16 := Nat.mod_lt _ (by decide)

/-- What the slot that device `c` sends at hop `h` holds. -/
def vals (X : Dev nD → Vec F S4096x256 .f32) (Y : Dev nD → Vec F S256x8192 .f32) : ℕ → Dev nD → Vec F S1x256x8192 .f32
  | 0, c => k0_pay2 (k0_pay1 (rowsOf (X c) (chunk0 c) (chunk0_lt c)) (Y c))
  | h + 1, c => if h < 15 then k0_pay3 (vals X Y h (lft c)) (rowsOf (X c) (chunk c h) (chunk_lt c h)) (Y c) else vals X Y h (lft c)

/-! ## Loads -/

/-- Loading a rectangle of a memref owned at contents `X` reads `X` there. -/
theorem load_owns (c : Dev nD) {cs : CoreSpace} {s : Shape} {e : EltTy} {m : Memref sig Kind.tc cs s e} {r : Rect s} {hl : m.view.LoadsAt r}
    {α : Type} {k : (r.shape.Idx → Elt F e) → Prog (TpuEff nD τ sig (Elt F) Λ₀ .tc) α} {X : s.Idx → Elt F e} {Q : α → sProp 𝕄} :
    (owns (c : Thread nD τ) m fullShare X : sProp 𝕄)
      ⊢ iprop((owns (c : Thread nD τ) m fullShare X -∗ wp frame (wpE (defs₀ (F := F)) 𝒱₀ c none) Set.univ (k fun j => X (r.emb j)) Q)
        -∗ wp frame (wpE (defs₀ (F := F)) 𝒱₀ c none) Set.univ (.op (.load m r hl) k) Q) := by
  have hS : (m.access r).set ⊆ m.view.set := by
    show (m.view.slice r).set ⊆ _
    rw [View.set_slice]
    exact Finset.map_subset_map.mpr (Finset.subset_univ _)
  unfold owns
  iintro ⟨%f, %hf, H⟩
  subst hf
  iintro Hk
  iapply (wp_load_rect 𝒱₀ (c : Thread nD τ) none Set.univ (m := m) (r := r) hS) $$ H
  iintro H
  iapply Hk
  iexists f
  isplitr; · ipureintro; rfl
  iexact H

/-- The rectangle that takes all of the right operand. -/
theorem all_emb (j : (Rect.unit (s := S256x8192) ![0, 0] S256x8192.size inb_S256x8192_S256x8192_0_0).shape.Idx) :
    (Rect.unit (s := S256x8192) ![0, 0] S256x8192.size inb_S256x8192_S256x8192_0_0).emb j = j := by
  funext a
  refine Fin.ext ?_
  rw [Rect.emb_apply]
  fin_cases a
  · show 0 + 1 * (j 0).val = (j 0).val; omega
  · show 0 + 1 * (j 1).val = (j 1).val; omega

theorem slot_view (c : Dev nD) (s : ℕ) (hs : s < 2) (f) :
    slotAt (F := F) c s hs f = ((scr.access (slotRect s hs)).loc (c : Thread nD τ) ↦[(slotRect s hs).set]{fullShare} f) := by
  unfold slotAt; rw [slot_set]

/-- A slot stored to holds what was stored. -/
theorem stored (c : Dev nD) (s : ℕ) (hs : s < 2) (f) (v v' : Vec F S1x256x8192 .f32) (e : v = v') :
    ((scr.access (slotRect s hs)).loc (c : Thread nD τ) ↦[(slotRect s hs).set]{fullShare} (scr.access (slotRect s hs)).write (Elt F) f v Finset.univ : sProp 𝕄)
      ⊢ ((scr.access (slotRect s hs)).loc (c : Thread nD τ) ↦[(slotRect s hs).set]{fullShare} cbuf v') := by
  subst e
  exact Entails.of_eq (pointsTo_congr fun i hi => access_write s hs v f i hi)

section
variable (arg1 : Memref sig .tc .vmem S4096x256 .f32) (arg2 : Memref sig .tc .vmem S256x8192 .f32)

/-- The two operands, in their staging buffers. -/
def operands (c : Dev nD) (X : Vec F S4096x256 .f32) (Y : Vec F S256x8192 .f32) : sProp 𝕄 :=
  iprop(owns (c : Thread nD τ) arg1 fullShare X ∗ owns (c : Thread nD τ) arg2 fullShare Y)

set_option maxHeartbeats 800000 in
/-- Accumulating row block `k`'s partial product in the landed slot. -/
theorem accumulate_run (c : Dev nD) (h : ℕ) (off : Fin 2 → ℕ) (hoff) (k : ℕ) (hk : k < 16) (he : off = ![k * 256, 0])
    (X : Vec F S4096x256 .f32) (Y : Vec F S256x8192 .f32) (v : Vec F S1x256x8192 .f32) (Q : PUnit → sProp 𝕄) :
    iprop((operands arg1 arg2 c X Y ∗ slotAt c (dst h) (dst_lt h) (cbuf v))
        ∗ ((operands arg1 arg2 c X Y ∗ slotAt c (dst h) (dst_lt h) (cbuf (k0_pay3 v (rowsOf X k hk) Y))) -∗ Q ⟨⟩))
      ⊢ wp frame (wpE (defs₀ (F := F)) 𝒱₀ c none) Set.univ (accumulate (F := F) arg1 arg2 scr h off hoff) Q := by
  subst he
  have hst : (scr.access (slotRect (dst h) (dst_lt h))).setOn Finset.univ ⊆ (slotRect (dst h) (dst_lt h)).set := by
    rw [View.setOn_univ, access_set]
  unfold accumulate operands
  rw [slot_view, slot_view]
  iintro ⟨⟨⟨Hx, Hw⟩, Hs⟩, Hk⟩
  iapply (wp_load_rect 𝒱₀ (c : Thread nD τ) none Set.univ (m := scr) (r := slotRect (dst h) (dst_lt h)) (le_of_eq (access_set (dst h) (dst_lt h)))) $$ Hs
  iintro Hs
  rw [access_read]
  iapply (load_owns c (m := arg1)) $$ Hx
  iintro Hx
  iapply (load_owns c (m := arg2)) $$ Hw
  iintro Hw
  iapply (wp_load_rect 𝒱₀ (c : Thread nD τ) none Set.univ (m := scr) (r := slotRect (dst h) (dst_lt h)) (le_of_eq (access_set (dst h) (dst_lt h)))) $$ Hs
  iintro Hs
  iapply (wp_store 𝒱₀ (c : Thread nD τ) none Set.univ (m := scr) (r := slotRect (dst h) (dst_lt h)) hst) $$ Hs
  iintro Hs
  rw [wp_ret]
  imodintro
  iapply Hk
  isplitl [Hx Hw]
  · isplitl [Hx]; · iexact Hx
    iexact Hw
  have e : (fun j => Y ((Rect.unit (s := S256x8192) ![0, 0] S256x8192.size inb_S256x8192_S256x8192_0_0).emb j)) = Y :=
    funext fun j => congrArg Y (all_emb j)
  iapply (stored c (dst h) (dst_lt h) _ _ _ (congrArg (k0_pay3 v (rowsOf X k hk)) e))
  iexact Hs

end

/-! ## The local copy -/

variable (B : ℕ → Dev nD → Vec F S1x256x8192 .f32)

/-- The result after `n` local copies, and the copy cell there. -/
def outSt (c : Dev nD) (f₀ : (main_v28 : Ref sig .tc).ty.Contents (Elt F)) (n : ℕ) : sProp 𝕄 :=
  iprop((out.view.loc (c : Thread nD τ) ↦{fullShare} outFn B c f₀ n) ∗ atPos ER (copyCell c) n ∅ 0 ∗ reached ER (copyCell c) n
    ∗ bigSep (Finset.Ico n 16) fun j => copyTok c j)

/-- Block `blk c j` apart from the rest of the result, and back after copy `j`. -/
theorem out_carve (c : Dev nD) (f₀) (j : ℕ) :
    (out.view.loc (c : Thread nD τ) ↦{fullShare} outFn B c f₀ j : sProp 𝕄)
      ⊢ iprop(outAt c (blk c j) (blk_lt c j) (outFn B c f₀ j)
        ∗ (out.view.loc (c : Thread nD τ) ↦[Finset.univ \ (outRef (blk c j) (blk_lt c j)).view.set]{fullShare} outFn B c f₀ j)) :=
  (pointsTo_split_subset (Finset.subset_univ _)).1

theorem out_join (c : Dev nD) (f₀) (j : ℕ) (hj : j < 16) :
    iprop(outAt c (blk c j) (blk_lt c j) (outFin B c)
        ∗ (out.view.loc (c : Thread nD τ) ↦[Finset.univ \ (outRef (blk c j) (blk_lt c j)).view.set]{fullShare} outFn B c f₀ j))
      ⊢ (out.view.loc (c : Thread nD τ) ↦{fullShare} outFn B c f₀ (j + 1) : sProp 𝕄) := by
  unfold outAt
  rw [pointsTo_congr (fun i hi => outFn_on B c f₀ j hj i hi),
    pointsTo_congr (fun i hi => outFn_off B c f₀ j hj i (Finset.mem_sdiff.mp hi).2)]
  exact (pointsTo_split_subset (Finset.subset_univ _)).2

set_option maxHeartbeats 1600000 in
/-- Local copy `j`, at hop `h = 14 + j`. -/
theorem copyOut_run (K : GSem nD τ sig → ℕ) (c : Dev nD) (h j : ℕ) (hj : j < 16) (hh : h = 14 + j) (off : Fin 2 → ℕ) (hoff) (he : off = ![blk c j * 256, 0])
    (f₀) (O : CellTallies nD τ sig ℕ) (hO : Above 0 O) (W : Waits sig ℕ) (Q : PUnit → sProp 𝕄) :
    iprop((invs B K ∗ levAts L lv ∗ outSt B c f₀ j ∗ slotAt c (dst h) (dst_lt h) (cbuf (B (15 + j) c)) ∗ owes (c : Thread nD τ) O W)
        ∗ ((outSt B c f₀ (j + 1) ∗ slotAt c (dst h) (dst_lt h) (cbuf (B (15 + j) c)) ∗ ∃ W, owes (c : Thread nD τ) O W) -∗ Q ⟨⟩))
      ⊢ wp frame (wpE (defs₀ (F := F)) 𝒱₀ c none) Set.univ (copyOut (F := F) out scr cc0_scratch4 h off hoff) Q := by
  subst he hh
  unfold copyOut outSt
  iintro ⟨⟨#HI, #Hlev, ⟨Ho, HaP, #HrP, Ht⟩, Hs, HO⟩, Hk⟩
  ihave Ho' := (out_carve B c f₀ j) $$ Ho
  icases Ho' with ⟨Hb, Hrest⟩
  ihave Ht' := (take hj) $$ Ht
  icases Ht' with ⟨Htj, Ht⟩
  unfold copyTok
  iapply (Rounds.wp_copy_pointsTo 𝒱₀ ER (sched B) (c : Thread nD τ) none (src := slotRef scr (dst (14 + j)) (dst_lt _)) (dst := outRef (blk c j) (blk_lt c j))
      (sem := .dma copyS) (q := fullShare) (fs := cbuf (B (15 + j) c)) (fd := outFn B c f₀ j) (r := j) (d := false) (κ := K (copyCell c))
      (by rw [duties_copy B c j hj]; exact Finset.mem_singleton_self _) 0 NO rfl (amount_copy B c j false)
      (by
        rw [payload_copy]; unfold copyPay
        exact sep_mono_left (Entails.of_eq (pointsTo_congr fun i hi => out_land B c j hj _ _ _ i hi)))) $$ [Hs Hb Htj]
  · isplitr; · iapply (inv_of B K _ (copy_mem c)); iexact HI
    isplitl [Hs]; · iexact Hs
    isplitl [Hb]; · iexact Hb
    isplitl [Htj]; · iexact Htj
    iexact HrP
  iintro HcP
  iapply (Rounds.wp_wait_rest_token 𝒱₀ ER (sched B) (c : Thread nD τ) none (κ := K (copyCell c))
      (wpE_waitDma2_eq (src := slotRef scr (dst (14 + j)) (dst_lt _)) (dst := outRef (blk c j) (blk_lt c j)) 𝒱₀ (c : Thread nD τ) none Set.univ) (Set.mem_univ _) 0
      (O := O) (W := W) (R := j) (m := 0) (T := ∅)
      ((Nat.zero_add _).trans (expect_copy B c j hj).symm)) $$ [HcP HO HaP]
  · isplitr; · iapply (inv_of B K _ (copy_mem c)); iexact HI
    isplitl [HcP]; · iexact HcP
    isplitl [HO]; · iexact HO
    isplitr
    · iapply (mayWait c _ 0 0 O (by decide) (le_of_eq (lv_copy c 0)) hO); iexact Hlev
    iexact HaP
  iintro ⟨HO, HaP, #HrP1, Hpay⟩
  ihave Hp := (Entails.of_eq (rest_copy B c j hj)) $$ Hpay
  unfold copyPay
  icases Hp with ⟨Hb, Hs⟩
  rw [wp_ret]
  imodintro
  iapply Hk
  isplitl [Hb Hrest HaP Ht]
  · isplitl [Hb Hrest]
    · iapply (out_join B c f₀ j hj)
      isplitl [Hb]; · iexact Hb
      iexact Hrest
    isplitl [HaP]; · iexact HaP
    isplitr; · iexact HrP1
    iexact Ht
  isplitl [Hs]; · iexact Hs
  iexists _; iexact HO

end Cert.KernelIdeal.Ring

end
-- ==== Proof.Hops.lean ====
module

public import proofs.«01_k».proof.Proof.Settle

/-! All thirty hops at a symbolic device, by induction over the hops left. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The row offsets that the program computes from a device's position -/

/-- A device's number as a word. -/
abbrev word (c : Dev nD) : BitVec 32 := BitVec.ofNat 32 c.val

theorem off1_eq : ∀ c : Dev nD, k0_off1 (word c) = ![chunk0 c * 256, 0] := by decide +kernel
theorem off2_eq : ∀ (c : Dev nD) (h : Fin 15), k0_off2 (word c) (BitVec.ofNat 32 h.val) = ![chunk c h.val * 256, 0] := by decide +kernel
theorem off3_eq : ∀ c : Dev nD, k0_off3 (word c) = ![blk c 0 * 256, 0] := by decide +kernel
theorem off4_eq : ∀ (c : Dev nD) (t : Fin 15), k0_off4 (word c) (BitVec.ofNat 32 t.val) = ![blk c (t.val + 1) * 256, 0] := by decide +kernel

theorem off2_hop (c : Dev nD) (h : ℕ) (hh : h < 15) : k0_off2 (word c) (BitVec.ofNat 32 (Fin.ofNat 15 h).val) = ![chunk c h * 256, 0] := by
  have e := off2_eq c (Fin.ofNat 15 h)
  rwa [show chunk c (Fin.ofNat 15 h).val = chunk c h from congrArg (chunk c) (Nat.mod_eq_of_lt hh)] at e
theorem off4_hop (c : Dev nD) (j : ℕ) (h0 : 0 < j) (hj : j < 16) :
    k0_off4 (word c) (BitVec.ofNat 32 (Fin.ofNat 15 (14 + j)).val) = ![blk c j * 256, 0] := by
  have e := off4_eq c (Fin.ofNat 15 (14 + j))
  rwa [show blk c ((Fin.ofNat 15 (14 + j)).val + 1) = blk c j from congrArg (blk c) (by show (14 + j) % 15 + 1 = j; omega)] at e

section
variable (arg1 : Memref sig .tc .vmem S4096x256 .f32) (arg2 : Memref sig .tc .vmem S256x8192 .f32)
  (X : Dev nD → Vec F S4096x256 .f32) (Y : Dev nD → Vec F S256x8192 .f32)

theorem vals_rs (c : Dev nD) (h : ℕ) (hh : h < 15) :
    vals X Y (h + 1) c = k0_pay3 (vals X Y h (lft c)) (rowsOf (X c) (chunk c h) (chunk_lt c h)) (Y c) := if_pos hh
theorem vals_ag (c : Dev nD) (h : ℕ) (hh : 15 ≤ h) : vals X Y (h + 1) c = vals X Y h (lft c) := if_neg (Nat.not_lt.mpr hh)

set_option maxHeartbeats 800000 in
/-- What hop `h` does with the slot that landed. -/
theorem settle_run (K : GSem nD τ sig → ℕ) (c : Dev nD) (h : ℕ) (hh : h < 30) (hw3 : k0_chk3 (word c))
    (f₀) (O : CellTallies nD τ sig ℕ) (hO : Above 0 O) (W : Waits sig ℕ) (Q : PUnit → sProp 𝕄) :
    iprop((invs (vals X Y) K ∗ levAts L lv ∗ operands arg1 arg2 c (X c) (Y c) ∗ outSt (vals X Y) c f₀ (h - 14)
          ∗ slotAt c (dst h) (dst_lt h) (cbuf (vals X Y h (lft c))) ∗ owes (c : Thread nD τ) O W)
        ∗ ((operands arg1 arg2 c (X c) (Y c) ∗ outSt (vals X Y) c f₀ (h + 1 - 14)
          ∗ slotAt c (dst h) (dst_lt h) (cbuf (vals X Y (h + 1) c)) ∗ ∃ W, owes (c : Thread nD τ) O W) -∗ Q ⟨⟩))
      ⊢ wp frame (wpE (defs₀ (F := F)) 𝒱₀ c none) Set.univ (settle (F := F) arg1 arg2 out scr cc0_scratch4 (word c) hw3 h) Q := by
  unfold settle
  by_cases h1 : h < 14
  · rw [if_pos h1, show h - 14 = 0 by omega, show h + 1 - 14 = 0 by omega, vals_rs X Y c h (by omega)]
    iintro ⟨⟨-, -, Hxy, Ho, Hs, HO⟩, Hk⟩
    iapply (accumulate_run arg1 arg2 c h _ _ (chunk c h) (chunk_lt c h) (off2_hop c h (by omega)) (X c) (Y c) (vals X Y h (lft c)) Q)
    isplitl [Hxy Hs]
    · isplitl [Hxy]; · iexact Hxy
      iexact Hs
    iintro ⟨Hxy, Hs⟩
    iapply Hk
    isplitl [Hxy]; · iexact Hxy
    isplitl [Ho]; · iexact Ho
    isplitl [Hs]; · iexact Hs
    iexists W; iexact HO
  · rw [if_neg h1]
    by_cases h2 : h = 14
    · rw [if_pos h2, show h - 14 = 0 by omega, show h + 1 - 14 = 0 + 1 by omega, wp_bind]
      iintro ⟨⟨#HI, #Hlev, Hxy, Ho, Hs, HO⟩, Hk⟩
      iapply (accumulate_run arg1 arg2 c h _ _ (chunk c h) (chunk_lt c h) (off2_hop c h (by omega)) (X c) (Y c) (vals X Y h (lft c)) _)
      isplitl [Hxy Hs]
      · isplitl [Hxy]; · iexact Hxy
        iexact Hs
      rw [← vals_rs X Y c h (by omega)]
      iintro ⟨Hxy, Hs⟩
      rw [show h + 1 = 15 + 0 by omega]
      iapply (copyOut_run (vals X Y) K c h 0 (by decide) h2 _ _ (off3_eq c) f₀ O hO W Q)
      isplitl [Ho Hs HO]
      · isplitr; · iexact HI
        isplitr; · iexact Hlev
        isplitl [Ho]; · iexact Ho
        isplitl [Hs]; · iexact Hs
        iexact HO
      iintro ⟨Ho, Hs, HO⟩
      iapply Hk
      isplitl [Hxy]; · iexact Hxy
      isplitl [Ho]; · iexact Ho
      isplitl [Hs]; · iexact Hs
      iexact HO
    · obtain ⟨j, rfl⟩ : ∃ j, h = 14 + j := ⟨h - 14, by omega⟩
      have h0 : 0 < j := by omega
      have hj : j < 16 := by omega
      rw [if_neg h2, show 14 + j - 14 = j by omega, show 14 + j + 1 - 14 = j + 1 by omega, ← vals_ag X Y c (14 + j) (by omega),
        show 14 + j + 1 = 15 + j by omega]
      iintro ⟨⟨#HI, #Hlev, Hxy, Ho, Hs, HO⟩, Hk⟩
      iapply (copyOut_run (vals X Y) K c (14 + j) j hj rfl _ _ (off4_hop c j h0 hj) f₀ O hO W Q)
      isplitl [Ho Hs HO]
      · isplitr; · iexact HI
        isplitr; · iexact Hlev
        isplitl [Ho]; · iexact Ho
        isplitl [Hs]; · iexact Hs
        iexact HO
      iintro ⟨Ho, Hs, HO⟩
      iapply Hk
      isplitl [Hxy]; · iexact Hxy
      isplitl [Ho]; · iexact Ho
      isplitl [Hs]; · iexact Hs
      iexact HO

/-! ## The induction -/

/-- Device `c` before hop `h`. -/
def hopSt (K : GSem nD τ sig → ℕ) (c : Dev nD) (f₀ : (main_v28 : Ref sig .tc).ty.Contents (Elt F)) (h : ℕ) : sProp 𝕄 :=
  iprop(invs (vals X Y) K ∗ levAts L lv ∗ operands arg1 arg2 c (X c) (Y c) ∗ outSt (vals X Y) c f₀ (h - 14)
    ∗ bigSep (Finset.Ico h 30) (fun k => hopTok c k) ∗ bigSep (Finset.Ico h 29) (fun k => turnTok c k)
    ∗ slotAt c (src h) (src_lt h) (cbuf (vals X Y h c)) ∗ (∃ f, slotAt (rgt c) (dst h) (dst_lt h) f)
    ∗ reached ER (recvCell (rgt c) (dst h) (dst_lt h)) (h / 2) ∗ reached ER (credCell c) h ∗ atPos ER (credCell c) h ∅ 0
    ∗ sendPos c h ∗ recvPos c h ∗ ∃ W, owes (c : Thread nD τ) (owe c h) W)

/-- Device `c` after the last hop. -/
def hopsPost (c : Dev nD) (f₀ : (main_v28 : Ref sig .tc).ty.Contents (Elt F)) : sProp 𝕄 :=
  iprop(operands arg1 arg2 c (X c) (Y c) ∗ outSt (vals X Y) c f₀ 16 ∗ (∃ f, slotAt c (src 29) (src_lt 29) f) ∗ (∃ f, slotAt c (dst 29) (dst_lt 29) f)
    ∗ atPos ER (credCell c) 29 ∅ 0 ∗ sendPos c 30 ∗ recvPos c 30 ∗ ∃ W, owes (c : Thread nD τ) 0 W)

theorem reached_congr (c : Dev nD) {s s' : ℕ} (e : s = s') (hs : s < 2) (hs' : s' < 2) (r : ℕ) :
    (reached ER (recvCell c s hs) r : sProp 𝕄) = reached ER (recvCell c s' hs') r := by subst e; rfl

/-- The landing that the slot just sent awaits next is this one. -/
theorem recvPos_next (c : Dev nD) (h : ℕ) :
    recvPos (F := F) c (h + 1) ⊢ iprop(recvPos c (h + 1) ∗ reached ER (recvCell c (src h) (src_lt h)) ((h + 1) / 2)) := by
  unfold recvPos onRecv
  rw [reached_congr c (dst_succ h) (dst_lt (h + 1)) (src_lt h)]
  iintro ⟨⟨Ha, #Hr⟩, Hb⟩
  isplitl [Ha Hb]
  · isplitl [Ha]
    · isplitl [Ha]; · iexact Ha
      iexact Hr
    iexact Hb
  iexact Hr

set_option maxHeartbeats 1600000 in
/-- The last `n + 1` hops. -/
theorem hops_run (K : GSem nD τ sig → ℕ) (c : Dev nD) (hw3 : k0_chk3 (word c)) (f₀) (Q : PUnit → sProp 𝕄) (n : ℕ) : ∀ h : ℕ, n + 1 + h = 30 →
    iprop(hopSt arg1 arg2 X Y K c f₀ h ∗ (hopsPost arg1 arg2 X Y c f₀ -∗ Q ⟨⟩))
      ⊢ wp frame (wpE (defs₀ (F := F)) 𝒱₀ c none) Set.univ
          (hops (F := F) arg1 arg2 out scr cc0_scratch1 cc0_scratch2 cc0_scratch3 cc0_scratch4 (word c) hw3 (lft c) (rgt c) (n + 1) h) Q := by
  induction n with
  | zero =>
    intro h e
    obtain rfl : h = 29 := by omega
    show _ ⊢ wp frame (wpE (defs₀ (F := F)) 𝒱₀ c none) Set.univ (exchange (F := F) scr cc0_scratch1 cc0_scratch2 29 (rgt c) >>= fun _ =>
      settle (F := F) arg1 arg2 out scr cc0_scratch4 (word c) hw3 29) Q
    rw [wp_bind]
    unfold hopSt
    iintro ⟨⟨#HI, #Hlev, Hxy, Ho, Ht, -, Hs, Hd, #HrR, #HrC, HaC, HsP, HrP, ⟨%W, HO⟩⟩, Hk⟩
    ihave Ht' := (take (show 29 < 30 by decide)) $$ Ht
    icases Ht' with ⟨Ht, -⟩
    iapply (exchange_run (vals X Y) K c 29 (by decide) W _)
    isplitl [Ht Hs Hd HsP HrP HO]
    · unfold exchangePre
      isplitr; · iexact HI
      isplitr; · iexact Hlev
      isplitl [Ht]; · iexact Ht
      isplitl [Hs]; · iexact Hs
      isplitl [Hd]; · iexact Hd
      isplitr; · iexact HrR
      isplitr; · iexact HrC
      isplitl [HsP]; · iexact HsP
      isplitl [HrP]; · iexact HrP
      iexact HO
    unfold exchangePost
    iintro ⟨Hs, Hd, -, HsP, HrP, ⟨%W', HO⟩⟩
    iapply (settle_run arg1 arg2 X Y K c 29 (by decide) hw3 f₀ (owe c (29 + 1) + credDue c 29) (above_mono (Nat.zero_le _) (above_rest c 29)) W' Q)
    isplitl [Hxy Ho Hd HO]
    · isplitr; · iexact HI
      isplitr; · iexact Hlev
      isplitl [Hxy]; · iexact Hxy
      isplitl [Ho]; · iexact Ho
      isplitl [Hd]; · iexact Hd
      iexact HO
    iintro ⟨Hxy, Ho, Hd, ⟨%W'', HO⟩⟩
    iapply Hk
    unfold hopsPost
    isplitl [Hxy]; · iexact Hxy
    isplitl [Ho]; · iexact Ho
    isplitl [Hs]; · iexists _; iexact Hs
    isplitl [Hd]; · iexists _; iexact Hd
    isplitl [HaC]; · iexact HaC
    isplitl [HsP]; · iexact HsP
    isplitl [HrP]; · iexact HrP
    iexists W''
    iapply (Entails.of_eq (congrArg (fun O => owes (c : Thread nD τ) O W'') (show owe c (29 + 1) + credDue c 29 = 0 by
      rw [owe_end, zero_add]; exact if_neg (by decide))))
    iexact HO
  | succ n ih =>
    intro h e
    have hh : h < 29 := by omega
    show _ ⊢ wp frame (wpE (defs₀ (F := F)) 𝒱₀ c none) Set.univ (exchange (F := F) scr cc0_scratch1 cc0_scratch2 h (rgt c) >>= fun _ =>
      settle (F := F) arg1 arg2 out scr cc0_scratch4 (word c) hw3 h >>= fun _ => turn (F := F) cc0_scratch3 (lft c) >>= fun _ =>
      hops (F := F) arg1 arg2 out scr cc0_scratch1 cc0_scratch2 cc0_scratch3 cc0_scratch4 (word c) hw3 (lft c) (rgt c) (n + 1) (h + 1)) Q
    simp only [wp_bind]
    unfold hopSt
    iintro ⟨⟨#HI, #Hlev, Hxy, Ho, Hts, Hus, Hs, Hd, #HrR, #HrC, HaC, HsP, HrP, ⟨%W, HO⟩⟩, Hk⟩
    ihave Ht' := (take (show h < 30 by omega)) $$ Hts
    icases Ht' with ⟨Ht, Hts⟩
    ihave Hu' := (take hh) $$ Hus
    icases Hu' with ⟨Hu, Hus⟩
    iapply (exchange_run (vals X Y) K c h (by omega) W _)
    isplitl [Ht Hs Hd HsP HrP HO]
    · unfold exchangePre
      isplitr; · iexact HI
      isplitr; · iexact Hlev
      isplitl [Ht]; · iexact Ht
      isplitl [Hs]; · iexact Hs
      isplitl [Hd]; · iexact Hd
      isplitr; · iexact HrR
      isplitr; · iexact HrC
      isplitl [HsP]; · iexact HsP
      isplitl [HrP]; · iexact HrP
      iexact HO
    unfold exchangePost
    iintro ⟨Hs, Hd, #HrL, HsP, HrP, ⟨%W', HO⟩⟩
    iapply (settle_run arg1 arg2 X Y K c h (by omega) hw3 f₀ (owe c (h + 1) + credDue c h) (above_mono (Nat.zero_le _) (above_rest c h)) W' _)
    isplitl [Hxy Ho Hd HO]
    · isplitr; · iexact HI
      isplitr; · iexact Hlev
      isplitl [Hxy]; · iexact Hxy
      isplitl [Ho]; · iexact Ho
      isplitl [Hd]; · iexact Hd
      iexact HO
    iintro ⟨Hxy, Ho, Hd, ⟨%W'', HO⟩⟩
    ihave HrP' := (recvPos_next c h) $$ HrP
    icases HrP' with ⟨HrP, #HrN⟩
    iapply (turn_run (vals X Y) K c h hh W'' _)
    isplitl [Hu Hs HaC HO]
    · unfold turnPre
      isplitr; · iexact HI
      isplitr; · iexact Hlev
      isplitl [Hu]; · iexact Hu
      isplitl [Hs]; · iexists _; iexact Hs
      isplitr; · iexact HrN
      isplitr; · iexact HrL
      isplitl [HaC]; · iexact HaC
      iexact HO
    unfold turnPost
    iintro ⟨⟨%f, Hn⟩, #HrN', HaC, #HrC', ⟨%W3, HO⟩⟩
    iapply (ih (h + 1) (by omega))
    isplitl [Hxy Ho Hts Hus Hd Hn HaC HsP HrP HO]
    · unfold hopSt
      isplitr; · iexact HI
      isplitr; · iexact Hlev
      isplitl [Hxy]; · iexact Hxy
      isplitl [Ho]; · iexact Ho
      isplitl [Hts]; · iexact Hts
      isplitl [Hus]; · iexact Hus
      isplitl [Hd]; · iexact Hd
      isplitl [Hn]
      · iexists f
        iapply (Entails.of_eq (slot_congr (rgt c) (dst_succ h).symm (src_lt h) (dst_lt (h + 1)) f)); iexact Hn
      isplitr
      · iapply (Entails.of_eq (reached_congr (rgt c) (dst_succ h).symm (src_lt h) (dst_lt (h + 1)) ((h + 1) / 2))); iexact HrN'
      isplitr; · iexact HrC'
      isplitl [HaC]; · iexact HaC
      isplitl [HsP]; · iexact HsP
      isplitl [HrP]; · iexact HrP
      iexists W3; iexact HO
    iexact Hk

end

end Cert.KernelIdeal.Ring

end
-- ==== Proof.Body.lean ====
module

public import proofs.«01_k».proof.Proof.Hops

/-! The whole body at a symbolic device: position table, barrier, the first partial product, all hops, and every cell closed. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The position table -/

/-- What device `c` finds in its position table: its own number, its left neighbour's, its right neighbour's. -/
def places (c : Dev nD) : Vec F S3 .i32 := fun i => (![word c, word (lft c), word (rgt c)] : Fin 3 → BitVec 32) (i 0)

theorem chk3_word : ∀ c : Dev nD, k0_chk3 (word c) := fun c => (@of_decide_eq_true _ (k0_chk3.dec (word c)) (by revert c; decide +kernel))
theorem chk1_word : ∀ c : Dev nD, k0_chk1 (word c) := fun c => (@of_decide_eq_true _ (k0_chk1.dec (word c)) (by revert c; decide +kernel))
theorem chk2_word : ∀ c : Dev nD, k0_chk2 (word c) := fun c => (@of_decide_eq_true _ (k0_chk2.dec (word c)) (by revert c; decide +kernel))
theorem dev1_word : ∀ c : Dev nD, k0_dev1 (word c) = c.val := by decide +kernel
theorem dev3_word : ∀ c : Dev nD, k0_dev3 (word c) = c.val := by decide +kernel

/-! ## The scratch buffer as its two slots -/

theorem z2 : 0 < 2 := by decide
theorem o2 : 1 < 2 := by decide

theorem slots_disjoint : Disjoint (slotRect 0 z2).set (slotRect 1 o2).set := by
  rw [Finset.disjoint_left]
  intro i h0 h1
  rw [slot_mem] at h0 h1
  omega

theorem slots_union : (slotRect 0 z2).set ∪ (slotRect 1 o2).set = (Finset.univ : Finset S2x256x8192.Idx) := by
  ext i
  rw [Finset.mem_union, slot_mem, slot_mem]
  have : (i 0).val < 2 := (i 0).isLt
  simp only [Finset.mem_univ, iff_true]
  omega

/-- The scratch buffer of device `c`, whole. -/
abbrev scratch (c : Dev nD) (f : (cc0_scratch0 : Ref sig .tc).ty.Contents (Elt F)) : sProp 𝕄 :=
  (c : Thread nD τ).loc cc0_scratch0 ↦{fullShare} f

theorem scratch_split (c : Dev nD) (f) : scratch (F := F) c f ⊢ iprop(slotAt c 0 z2 f ∗ slotAt c 1 o2 f) := by
  unfold slotAt
  rw [slot_set, slot_set]
  show ((c : Thread nD τ).loc cc0_scratch0 ↦[Finset.univ]{fullShare} f) ⊢ _
  rw [← slots_union]
  exact (pointsTo_union slots_disjoint).1

theorem scratch_join (c : Dev nD) (f g) : iprop(slotAt c 0 z2 f ∗ slotAt c 1 o2 g) ⊢ iprop(∃ f, scratch (F := F) c f) := by
  unfold slotAt
  rw [slot_set, slot_set]
  iintro H
  iexists ((slotRect 1 o2).set.piecewise g f)
  show _ ⊢ ((c : Thread nD τ).loc cc0_scratch0 ↦[Finset.univ]{fullShare} _)
  rw [← slots_union]
  iapply (pointsTo_join slots_disjoint)

/-! ## From the barrier on -/

section
variable (arg1 : Memref sig .tc .vmem S4096x256 .f32) (arg2 : Memref sig .tc .vmem S256x8192 .f32)
  (X : Dev nD → Vec F S4096x256 .f32) (Y : Dev nD → Vec F S256x8192 .f32)

/-- What device `c` owes at launch: all its hops' copies and credits, and a unit to each neighbour's barrier. -/
def O₀ (c : Dev nD) : CellTallies nD τ sig ℕ := owe c 0 + tallyAt (barCell (rgt c)) 0 1 + tallyAt (barCell (lft c)) 0 1

/-- For the barrier: the own position, the rights to signal both neighbours, the credit to wait. -/
def barSt (c : Dev nD) : sProp 𝕄 :=
  iprop(atPos ER (barCell c) 0 ∅ 0 ∗ reached ER (barCell (lft c)) 0 ∗ reached ER (barCell (rgt c)) 0
    ∗ dutyTok ER (barCell (lft c)) 0 true ∗ dutyTok ER (barCell (rgt c)) 0 false ∗ cred (tallyAt (barCell c) 0 2))

/-- The tokens of all hops, credits and local copies. -/
def toks (c : Dev nD) : sProp 𝕄 :=
  iprop(bigSep (Finset.Ico 0 30) (fun k => hopTok c k) ∗ bigSep (Finset.Ico 0 29) (fun k => turnTok c k) ∗ bigSep (Finset.Ico 0 16) fun j => copyTok c j)

/-- The kernel's own cells, just opened. -/
def opened (c : Dev nD) : sProp 𝕄 :=
  iprop((atPos ER (credCell c) 0 ∅ 0 ∗ reached ER (credCell c) 0) ∗ (onSend c 0 z2 0 ∗ onSend c 1 o2 0)
    ∗ (onRecv c 0 z2 0 ∗ onRecv c 1 o2 0) ∗ (atPos ER (copyCell c) 0 ∅ 0 ∗ reached ER (copyCell c) 0))

/-- What the body needs from the barrier on. -/
def barrierPre (K : GSem nD τ sig → ℕ) (c : Dev nD) (f₀ : (main_v28 : Ref sig .tc).ty.Contents (Elt F)) (W : Waits sig ℕ) : sProp 𝕄 :=
  iprop(invs (vals X Y) K ∗ levAts L lv ∗ operands arg1 arg2 c (X c) (Y c) ∗ barSt c ∗ toks c ∗ opened c ∗ (∃ f, scratch c f)
    ∗ (out.view.loc (c : Thread nD τ) ↦{fullShare} f₀) ∗ owes (c : Thread nD τ) (O₀ c) W)

/-- All counters of the kernel at zero. -/
def zeros (c : Dev nD) : sProp 𝕄 :=
  iprop(semVal (credCell c) 0 ∗ semVal (sendCell c 0 z2) 0 ∗ semVal (sendCell c 1 o2) 0
    ∗ semVal (recvCell c 0 z2) 0 ∗ semVal (recvCell c 1 o2) 0 ∗ semVal (copyCell c) 0)

/-- What it leaves: the finished result, every counter at zero, nothing owed. -/
def bodyPost (c : Dev nD) : sProp 𝕄 :=
  iprop(operands arg1 arg2 c (X c) (Y c) ∗ (∃ f, scratch c f) ∗ (out.view.loc (c : Thread nD τ) ↦{fullShare} outFin (vals X Y) c)
    ∗ semVal (barCell c) 0 ∗ zeros c ∗ ∃ W, owes (c : Thread nD τ) 0 W)

theorem close_bar (κ : ℕ) (c : Dev nD) : iprop(cellInv ER (sched (vals X Y)) κ (barCell c) ∗ atPos ER (barCell c) 1 ∅ 0) ⊢ (|={Set.univ}=> semVal (barCell c) 0 : sProp 𝕄) :=
  Rounds.cell_close ER _ (Set.mem_univ κ) id (no_bar _ c)
theorem close_cred (κ : ℕ) (c : Dev nD) : iprop(cellInv ER (sched (vals X Y)) κ (credCell c) ∗ atPos ER (credCell c) 29 ∅ 0) ⊢ (|={Set.univ}=> semVal (credCell c) 0 : sProp 𝕄) :=
  Rounds.cell_close ER _ (Set.mem_univ κ) id (no_cred _ c)
theorem close_copy (κ : ℕ) (c : Dev nD) : iprop(cellInv ER (sched (vals X Y)) κ (copyCell c) ∗ atPos ER (copyCell c) 16 ∅ 0) ⊢ (|={Set.univ}=> semVal (copyCell c) 0 : sProp 𝕄) :=
  Rounds.cell_close ER _ (Set.mem_univ κ) id (no_copy _ c)
theorem close_send (κ : ℕ) (c : Dev nD) (s : ℕ) (hs : s < 2) :
    iprop(cellInv ER (sched (vals X Y)) κ (sendCell c s hs) ∗ atPos ER (sendCell c s hs) 15 ∅ 0) ⊢ (|={Set.univ}=> semVal (sendCell c s hs) 0 : sProp 𝕄) :=
  Rounds.cell_close ER _ (Set.mem_univ κ) id (no_send _ c s hs)
theorem close_recv (κ : ℕ) (c : Dev nD) (s : ℕ) (hs : s < 2) :
    iprop(cellInv ER (sched (vals X Y)) κ (recvCell c s hs) ∗ atPos ER (recvCell c s hs) 15 ∅ 0) ⊢ (|={Set.univ}=> semVal (recvCell c s hs) 0 : sProp 𝕄) :=
  Rounds.cell_close ER _ (Set.mem_univ κ) id (no_recv _ c s hs)

set_option maxHeartbeats 1600000 in
/-- After the hops every cell closes. -/
theorem close_all (K : GSem nD τ sig → ℕ) (c : Dev nD) (f₀ : (main_v28 : Ref sig .tc).ty.Contents (Elt F)) :
    iprop(invs (vals X Y) K ∗ atPos ER (barCell c) 1 ∅ 0 ∗ hopsPost arg1 arg2 X Y c f₀) ⊢ (|={Set.univ}=> bodyPost arg1 arg2 X Y c : sProp 𝕄) := by
  unfold hopsPost outSt sendPos recvPos onSend onRecv
  iintro ⟨#HI, HaB, Hxy, ⟨Ho, HaP, -, -⟩, ⟨%f1, Hs1⟩, ⟨%f0, Hs0⟩, HaC, ⟨⟨HaS0, -⟩, ⟨HaS1, -⟩⟩, ⟨⟨HaR1, -⟩, ⟨HaR0, -⟩⟩, HO⟩
  imod (close_bar X Y (K (barCell c)) c) $$ [HaB] with HzB
  · isplitr; · iapply (inv_of (vals X Y) K _ (bar_mem c)); iexact HI
    iexact HaB
  imod (close_cred X Y (K (credCell c)) c) $$ [HaC] with HzC
  · isplitr; · iapply (inv_of (vals X Y) K _ (cred_mem c)); iexact HI
    iexact HaC
  imod (close_send X Y (K (sendCell c 0 z2)) c 0 z2) $$ [HaS0] with HzS0
  · isplitr; · iapply (inv_of (vals X Y) K _ (send_mem c 0 z2)); iexact HI
    iexact HaS0
  imod (close_send X Y (K (sendCell c 1 o2)) c 1 o2) $$ [HaS1] with HzS1
  · isplitr; · iapply (inv_of (vals X Y) K _ (send_mem c 1 o2)); iexact HI
    iexact HaS1
  imod (close_recv X Y (K (recvCell c 0 z2)) c 0 z2) $$ [HaR0] with HzR0
  · isplitr; · iapply (inv_of (vals X Y) K _ (recv_mem c 0 z2)); iexact HI
    iexact HaR0
  imod (close_recv X Y (K (recvCell c 1 o2)) c 1 o2) $$ [HaR1] with HzR1
  · isplitr; · iapply (inv_of (vals X Y) K _ (recv_mem c 1 o2)); iexact HI
    iexact HaR1
  imod (close_copy X Y (K (copyCell c)) c) $$ [HaP] with HzP
  · isplitr; · iapply (inv_of (vals X Y) K _ (copy_mem c)); iexact HI
    iexact HaP
  imodintro
  unfold bodyPost zeros
  isplitl [Hxy]; · iexact Hxy
  isplitl [Hs0 Hs1]
  · iapply (scratch_join c f0 f1)
    isplitl [Hs0]; · iexact Hs0
    iexact Hs1
  isplitl [Ho]
  · rw [outFn_all]; iexact Ho
  isplitl [HzB]; · iexact HzB
  isplitl [HzC HzS0 HzS1 HzR0 HzR1 HzP]
  · isplitl [HzC]; · iexact HzC
    isplitl [HzS0]; · iexact HzS0
    isplitl [HzS1]; · iexact HzS1
    isplitl [HzR0]; · iexact HzR0
    isplitl [HzR1]; · iexact HzR1
    iexact HzP
  iexact HO

theorem barPay_true (c : Dev nD) :
    barPay (F := F) c true = iprop((∃ f, slotAt (rgt c) 1 o2 f) ∗ reached ER (recvCell (rgt c) 1 o2) 0) := if_pos rfl

/-- The cells just opened, as the first hop wants them. -/
theorem opened_pos (c : Dev nD) : opened (F := F) c ⊢ iprop((atPos ER (credCell c) 0 ∅ 0 ∗ reached ER (credCell c) 0) ∗ sendPos c 0 ∗ recvPos c 0
    ∗ (reached ER (recvCell c 1 o2) 0 ∗ (atPos ER (copyCell c) 0 ∅ 0 ∗ reached ER (copyCell c) 0))) := by
  unfold opened sendPos recvPos onRecv
  iintro ⟨HC, HS, ⟨HR0, ⟨Ha, #Hr⟩⟩, HP⟩
  isplitl [HC]; · iexact HC
  isplitl [HS]; · iexact HS
  isplitl [HR0 Ha]
  · isplitl [Ha]
    · isplitl [Ha]; · iexact Ha
      iexact Hr
    iexact HR0
  isplitr; · iexact Hr
  iexact HP

/-- The thirty hops and the closing of every cell behind them. -/
theorem hops_close (K : GSem nD τ sig → ℕ) (c : Dev nD) (hw3 : k0_chk3 (word c)) (f₀) (Q : PUnit → sProp 𝕄) (m : ℕ) (hm : m = 30) :
    iprop(invs (vals X Y) K ∗ hopSt arg1 arg2 X Y K c f₀ 0 ∗ atPos ER (barCell c) 1 ∅ 0 ∗ (bodyPost arg1 arg2 X Y c -∗ Q ⟨⟩))
      ⊢ wp frame (wpE (defs₀ (F := F)) 𝒱₀ c none) Set.univ
          (hops (F := F) arg1 arg2 out scr cc0_scratch1 cc0_scratch2 cc0_scratch3 cc0_scratch4 (word c) hw3 (lft c) (rgt c) m 0) Q := by
  obtain ⟨n, rfl⟩ : ∃ n, m = n + 1 := ⟨29, hm⟩
  refine BIBase.Entails.trans ?_ (wp_fupd frame (wpE (defs₀ (F := F)) 𝒱₀ c none) Set.univ _ Q)
  refine BIBase.Entails.trans ?_ (hops_run arg1 arg2 X Y K c hw3 f₀ (fun a => iprop(|={Set.univ}=> Q a)) n 0 hm)
  iintro ⟨#HI, Hh, HaB, Hk⟩
  isplitl [Hh]; · iexact Hh
  iintro Hpost
  imod (close_all arg1 arg2 X Y K c f₀) $$ [HaB Hpost] with Hend
  · isplitr; · iexact HI
    isplitl [HaB]; · iexact HaB
    iexact Hpost
  imodintro
  iapply Hk
  iexact Hend

attribute [local irreducible] hops

set_option maxHeartbeats 3200000 in
/-- The body from the barrier on. -/
theorem barrier_run (K : GSem nD τ sig → ℕ) (c : Dev nD) (hw3 : k0_chk3 (word c)) (f₀) (W : Waits sig ℕ) (Q : PUnit → sProp 𝕄) :
    iprop(barrierPre arg1 arg2 X Y K c f₀ W ∗ (bodyPost arg1 arg2 X Y c -∗ Q ⟨⟩))
      ⊢ wp frame (wpE (defs₀ (F := F)) 𝒱₀ c none) Set.univ
          (fromBarrier (F := F) arg1 arg2 out scr cc0_scratch1 cc0_scratch2 cc0_scratch3 cc0_scratch4 (word c) hw3 (lft c) (rgt c)) Q := by
  have hst : (scr.access (slotRect 0 z2)).setOn Finset.univ ⊆ (slotRect 0 z2).set := by
    rw [View.setOn_univ, access_set]
  unfold fromBarrier semSignalWord semWaitWord barrierPre barSt toks operands O₀
  iintro ⟨⟨#HI, #Hlev, ⟨Hx, Hw⟩, ⟨HaB, #HrBL, #HrBR, HtL, HtR, HcB⟩, ⟨Hts, Hus, Hcs⟩, Hop, ⟨%f, Hscr⟩, Ho, HO⟩, Hk⟩
  ihave Hop' := (opened_pos c) $$ Hop
  icases Hop' with ⟨⟨HaC, #HrC⟩, HsP, HrP, #HrR1, ⟨HaP, #HrP0⟩⟩
  ihave Hslots := (scratch_split c f) $$ Hscr
  icases Hslots with ⟨Hs0, Hs1⟩
  iapply (Rounds.wp_signal 𝒱₀ ER (sched (vals X Y)) (c : Thread nD τ) none (dst := (lft c : Thread nD τ)) (sem := barS) (r := 0) (d := true) (κ := K (barCell (lft c)))
      (by rw [duties_bar]; exact Finset.mem_univ _) (amount_bar (vals X Y) (lft c) 0 true) 0 (owe c 0 + tallyAt (barCell (rgt c)) 0 1) rfl) $$ [HO HtL Hs1]
  · isplitr; · iapply (inv_of (vals X Y) K _ (bar_mem (lft c))); iexact HI
    isplitl [HO]; · iexact HO
    isplitl [HtL]; · iexact HtL
    isplitl [Hs1]
    · rw [payload_bar]; unfold barPay; rw [if_pos rfl, rgt_lft]
      isplitl [Hs1]; · iexists f; iexact Hs1
      iexact HrR1
    · iexact HrBL
  iintro HO
  iapply (Rounds.wp_signal 𝒱₀ ER (sched (vals X Y)) (c : Thread nD τ) none (dst := (rgt c : Thread nD τ)) (sem := barS) (r := 0) (d := false) (κ := K (barCell (rgt c)))
      (by rw [duties_bar]; exact Finset.mem_univ _) (amount_bar (vals X Y) (rgt c) 0 false) 0 (owe c 0) rfl) $$ [HO HtR]
  · isplitr; · iapply (inv_of (vals X Y) K _ (bar_mem (rgt c))); iexact HI
    isplitl [HO]; · iexact HO
    isplitl [HtR]; · iexact HtR
    isplitr
    · rw [payload_bar]; unfold barPay; rw [if_neg Bool.false_ne_true]; iempintro
    · iexact HrBR
  iintro HO
  iapply (Rounds.wp_wait_rest_token 𝒱₀ ER (sched (vals X Y)) (c : Thread nD τ) none (κ := K (barCell c))
      (wpE_semWait_eq 𝒱₀ (c : Thread nD τ) none Set.univ) (Set.mem_univ _) 0 (O := owe c 0) (W := W) (R := 0) (m := 0) (T := ∅)
      ((Nat.zero_add 2).trans (expect_bar (vals X Y) c).symm)) $$ [HcB HO HaB]
  · isplitr; · iapply (inv_of (vals X Y) K _ (bar_mem c)); iexact HI
    isplitl [HcB]; · iexact HcB
    isplitl [HO]; · iexact HO
    isplitr
    · iapply (mayWait c _ 0 1 _ (by decide) (le_of_eq (lv_bar c 0)) (above_owe c 0)); iexact Hlev
    iexact HaB
  iintro ⟨HO, HaB, -, Hpay⟩
  ihave Hp := ((rest_bar (vals X Y) c).trans (Entails.of_eq (barPay_true c))) $$ Hpay
  icases Hp with ⟨Hd, #HrN⟩
  iapply (load_owns c (m := arg1)) $$ Hx
  iintro Hx
  iapply (load_owns c (m := arg2)) $$ Hw
  iintro Hw
  ihave Hs0 := (Entails.of_eq (slot_view c 0 z2 f)) $$ Hs0
  iapply (wp_load_rect 𝒱₀ (c : Thread nD τ) none Set.univ (m := scr) (r := slotRect 0 z2) (le_of_eq (access_set 0 z2))) $$ Hs0
  iintro Hs0
  iapply (wp_store 𝒱₀ (c : Thread nD τ) none Set.univ (m := scr) (r := slotRect 0 z2) hst) $$ Hs0
  iintro Hs0
  iapply (hops_close arg1 arg2 X Y K c hw3 f₀ Q 30 rfl)
  isplitr; · iexact HI
  isplitr [Hk HaB]
  · unfold hopSt operands outSt
    isplitr; · iexact HI
    isplitr; · iexact Hlev
    isplitl [Hx Hw]
    · isplitl [Hx]; · iexact Hx
      iexact Hw
    isplitl [Ho HaP Hcs]
    · isplitl [Ho]
      · rw [outFn_zero]; iexact Ho
      isplitl [HaP]; · iexact HaP
      isplitr; · iexact HrP0
      iexact Hcs
    isplitl [Hts]; · iexact Hts
    isplitl [Hus]; · iexact Hus
    isplitl [Hs0]
    · have e : (fun j => Y c ((Rect.unit (s := S256x8192) ![0, 0] S256x8192.size inb_S256x8192_S256x8192_0_0).emb j)) = Y c :=
        funext fun j => congrArg (Y c) (all_emb j)
      have e' : (fun j => X c ((Rect.unit (s := S4096x256) (k0_off1 (word c)) S256x256.size (k0_off1_inb (word c) hw3)).emb j)) = rowsOf (X c) (chunk0 c) (chunk0_lt c) := by
        unfold rowsOf
        generalize k0_off1_inb (word c) hw3 = p
        revert p
        rw [off1_eq c]
        intro p
        rfl
      rw [slot_view]
      iapply (stored c 0 z2 _ _ (vals X Y 0 c) (congrArg k0_pay2 (congrArg₂ k0_pay1 e' e)))
      iexact Hs0
    isplitl [Hd]; · iexact Hd
    isplitr; · iexact HrN
    isplitr; · iexact HrC
    isplitl [HaC]; · iexact HaC
    isplitl [HsP]; · iexact HsP
    isplitl [HrP]; · iexact HrP
    iexists _; iexact HO
  isplitl [HaB]; · iexact HaB
  iexact Hk

/-! ## The whole body -/

variable (arg0 : Memref sig .tc .smem S3 .i32)

theorem places_at (c : Dev nD) (i : S3.Idx) (k : Fin 3) (h : (i 0).val = k.val) :
    places (F := F) c i = (![word c, word (lft c), word (rgt c)] : Fin 3 → BitVec 32) k := by
  unfold places
  exact congrArg _ (Fin.ext h)

theorem first_val (k : ℕ) (hk : ∀ a, (![k] : Fin 1 → ℕ) a + S1.size a ≤ S3.size a) (x : (Rect.unit (s := S3) ![k] S1.size hk).shape.Idx) :
    ((Rect.unit (s := S3) ![k] S1.size hk).emb x 0).val = k := by
  rw [Rect.emb_apply]
  have : (x 0).val < 1 := (x 0).isLt
  show k + 1 * (x 0).val = k
  omega

/-- The neighbours that the program computes are the ring's. -/
theorem at_devices (c : Dev nD) {l r : ℕ} (hl hr) (el : l = (lft c).val) (er : r = (rgt c).val) (Φ : Dev nD → Dev nD → sProp 𝕄) :
    Φ (lft c) (rgt c) ⊢ Φ ⟨l, hl⟩ ⟨r, hr⟩ := by
  subst el er; exact .rfl

/-- Reading word `k` of the position table. -/
theorem load_word (c : Dev nD) (k : ℕ) (hk : ∀ a, (![k] : Fin 1 → ℕ) a + S1.size a ≤ S3.size a) (h1) (hp) (v : BitVec 32)
    (he : ∀ x, places (F := F) c ((Rect.unit (s := S3) ![k] S1.size hk).emb x) = v)
    (P : BitVec 32 → Prog (TpuEff nD τ sig (Elt F) Λ₀ .tc) PUnit) (Q : PUnit → sProp 𝕄) :
    (owns (c : Thread nD τ) arg0 fullShare (places (F := F) c) : sProp 𝕄)
      ⊢ iprop((owns (c : Thread nD τ) arg0 fullShare (places (F := F) c) -∗ wp frame (wpE (defs₀ (F := F)) 𝒱₀ c none) Set.univ (P v) Q)
        -∗ wp frame (wpE (defs₀ (F := F)) 𝒱₀ c none) Set.univ (smemLoad arg0 (Rect.unit (s := S3) ![k] S1.size hk) h1 hp >>= P) Q) := by
  have h := load_owns (F := F) c (m := arg0) (r := Rect.unit (s := S3) ![k] S1.size hk) (hl := View.loadsAt_rect (View.loads_smem_one hp h1))
    (k := fun f => P (f (Shape.Idx.first (h1.symm ▸ Nat.one_pos)))) (X := places c) (Q := Q)
  beta_reduce at h
  rw [he] at h
  exact h

set_option maxHeartbeats 1600000 in
/-- The body on device `c`. -/
theorem body_run (K : GSem nD τ sig → ℕ) (c : Dev nD) (f₀) (W : Waits sig ℕ) (Q : PUnit → sProp 𝕄) :
    iprop((owns (c : Thread nD τ) arg0 fullShare (places (F := F) c) ∗ barrierPre arg1 arg2 X Y K c f₀ W)
        ∗ ((owns (c : Thread nD τ) arg0 fullShare (places (F := F) c) ∗ bodyPost arg1 arg2 X Y c) -∗ Q ⟨⟩))
      ⊢ wp frame (wpE (defs₀ (F := F)) 𝒱₀ c none) Set.univ
          (body (F := F) arg1 arg2 out scr cc0_scratch1 cc0_scratch2 cc0_scratch3 cc0_scratch4 arg0) Q := by
  unfold body
  iintro ⟨⟨Hm, Hb⟩, Hk⟩
  iapply (load_word arg0 c 0 inb_S3_S1_0 numel1_S1 rfl (word c) (fun x => places_at c _ 0 (first_val 0 _ x)) _ Q) $$ Hm
  iintro Hm
  iapply (wp_assume 𝒱₀ (c : Thread nD τ) none Set.univ (chk3_word c))
  iapply (load_word arg0 c 1 inb_S3_S1_1 numel1_S1 rfl (word (lft c)) (fun x => places_at c _ 1 (first_val 1 _ x)) _ Q) $$ Hm
  iintro Hm
  iapply (wp_assume 𝒱₀ (c : Thread nD τ) none Set.univ (chk1_word (lft c)))
  iapply (load_word arg0 c 2 inb_S3_S1_2 numel1_S1 rfl (word (rgt c)) (fun x => places_at c _ 2 (first_val 2 _ x)) _ Q) $$ Hm
  iintro Hm
  iapply (wp_assume 𝒱₀ (c : Thread nD τ) none Set.univ (chk2_word (rgt c)))
  iapply (at_devices c _ _ (dev1_word (lft c)) (dev3_word (rgt c)) (fun l r => wp frame (wpE (defs₀ (F := F)) 𝒱₀ c none) Set.univ
    (fromBarrier (F := F) arg1 arg2 out scr cc0_scratch1 cc0_scratch2 cc0_scratch3 cc0_scratch4 (word c) (chk3_word c) l r) Q))
  iapply (barrier_run arg1 arg2 X Y K c (chk3_word c) f₀ W Q)
  isplitl [Hb]; · iexact Hb
  iintro Hp
  iapply Hk
  isplitl [Hm]; · iexact Hm
  iexact Hp

end

end Cert.KernelIdeal.Ring

end
-- ==== Proof.Host.lean ====
module

public import proofs.«01_k».proof.Proof.Body
public import Idealize.ShloMosaic.Lib.StableHlo.RunClose

/-! What the host computes before the kernel: every device's position table holds its own number and its neighbours'. -/

@[expose] public section

noncomputable section

namespace Cert.KernelIdeal.Ring

open Cert.KernelIdeal.Gen
open Idealize.ShloMosaic
open Idealize.ShloMosaic.TcCoe

variable {F : FTy → Type} [FloatOps F]

/-- One number as the contents of a scalar buffer. -/
abbrev one (x : BitVec 32) : Vec F S_ .i32 := fun _ => x

variable (U : Valuation τ sig (Elt F)) (c : Dev nD)

/-- Where the host looks for device `d` in the table of positions: at its partition number, wrapped into the table. -/
def seat (d : Dev nD) : BitVec 32 :=
  let w := IntOp.remui .host (IntOp.divui .host (Dev.word d) 1#32) 16#32
  Scalar.select (IntOp.cmpi .slt w 0#32) (IntOp.addi w 16#32) w
/-- The table of positions holds device `d`'s number there. -/
theorem seat_lookup : ∀ d : Dev nD,
    shapeCast (α := BitVec 32) S_ (Host.dynamicSlice S1 (fun i => lit0 (S16.rowMajor i)) (fun _ => (seat d).toInt) sliceFits_S16_S1) shapeCasts_S1_S_
      (Shape.Idx.first h_S_) = word d := by decide +kernel

/-- After the first stretch: the device's own number, found in the table of positions, -/
theorem own_place : StableHlo.after (hostOps0 c) U main_v9 = one (word c) := by
  after_results_simp_entrywise
  funext i
  rw [show i = Shape.Idx.first h_S_ from funext fun a => a.elim0]
  refine Eq.trans ?_ (seat_lookup c)
  refine congrFun (congrArg (fun z => shapeCast S_ (Host.dynamicSlice S1 _ z sliceFits_S16_S1) shapeCasts_S1_S_) (funext fun k => ?_)) _
  obtain rfl : k = 0 := Subsingleton.elim _ _
  rfl
/-- one more than it, about to be reduced by the number of devices, -/
theorem own_next : StableHlo.after (hostOps0 c) U main_v10 = one (word c + 1#32) := by
  after_results_simp_entrywise
  funext i
  rw [show i = Shape.Idx.first h_S_ from funext fun a => a.elim0]
  refine Eq.trans ?_ (congrArg (· + 1#32) (seat_lookup c))
  refine congrArg (· + 1#32) ?_
  refine congrFun (congrArg (fun z => shapeCast S_ (Host.dynamicSlice S1 _ z sliceFits_S16_S1) shapeCasts_S1_S_) (funext fun k => ?_)) _
  obtain rfl : k = 0 := Subsingleton.elim _ _
  rfl
/-- and the table of the ring's devices. -/
theorem table_kept : StableHlo.after (hostOps0 c) U main_c_0 = fun i => lit1 (S16.rowMajor i) := by
  after_results_simp_entrywise
  rfl
/-- The number of devices, in a scalar buffer: before the right neighbour is computed, -/
theorem ring_size : StableHlo.after (hostOps0 c) U main_c_6 = one 16#32 := by
  after_results_simp_entrywise
  rfl

/-- The remainder with the divisor's sign, as the host computes it. -/
def remHost (a b : BitVec 32) : BitVec 32 :=
  let d := Scalar.select (IntOp.cmpi .eq b 0#32) 1#32 b
  let r := IntOp.remsi .host a d
  Scalar.select (IntOp.andi (IntOp.cmpi .ne (IntOp.cmpi .slt r 0#32) (IntOp.cmpi .slt d 0#32)) (IntOp.cmpi .ne r 0#32)) (IntOp.addi r d) r
theorem remHost_next : ∀ c : Dev nD, remHost (word c + 1#32) 16#32 = word (rgt c) := by decide +kernel
theorem remHost_prev : ∀ c : Dev nD, remHost (word c - 1#32) 16#32 = word (lft c) := by decide +kernel

/-- The remainder of one more than the own number is the right neighbour's. -/
theorem next_place (h : U main_v10 = one (word c + 1#32)) (h' : U main_c_6 = one 16#32) :
    StableHlo.after hostOps0_1 U main_v11 = one (word (rgt c)) := by
  after_results_simp_entrywise
  simp only [h, h', StableHlo.TRef.ofBuf_toBuf]
  rw [← remHost_next c]
  rfl
/-- The ring's table holds device `d`'s number at place `d`. -/
theorem lookup : ∀ d : Dev nD,
    shapeCast (α := BitVec 32) S_ (Host.dynamicSlice S1 (fun i => lit1 (S16.rowMajor i))
      (fun _ => (Scalar.select (IntOp.cmpi .slt (word d) 0#32) (IntOp.addi (word d) 16#32) (word d)).toInt) sliceFits_S16_S1) shapeCasts_S1_S_
      (Shape.Idx.first h_S_) = word d := by decide +kernel
/-- The right neighbour, found in the table of the ring's devices. -/
theorem right_place (h : U main_v11 = one (word (rgt c))) (h' : U main_c_0 = fun i => lit1 (S16.rowMajor i)) :
    StableHlo.after hostOps0_2 U main_v16 = one (word (rgt c)) := by
  after_results_simp_entrywise
  simp only [h, h']
  funext i
  rw [show i = Shape.Idx.first h_S_ from funext fun a => a.elim0]
  refine Eq.trans ?_ (lookup (rgt c))
  refine congrFun (congrArg (fun z => shapeCast S_ (Host.dynamicSlice S1 _ z sliceFits_S16_S1) shapeCasts_S1_S_) (funext fun k => ?_)) _
  obtain rfl : k = 0 := Subsingleton.elim _ _
  rfl
theorem own_prev (h : U main_v9 = one (word c)) : StableHlo.after hostOps0_2 U main_v17 = one (word c - 1#32) := by
  after_results_simp_entrywise
  simp only [h]
  rfl
/-- and before the left one is. -/
theorem ring_size' : StableHlo.after hostOps0_2 U main_c_10 = one 16#32 := by
  after_results_simp_entrywise
  rfl
/-- The remainder of one less than the own number is the left neighbour's. -/
theorem prev_place (h : U main_v17 = one (word c - 1#32)) (h' : U main_c_10 = one 16#32) :
    StableHlo.after hostOps0_3 U main_v18 = one (word (lft c)) := by
  after_results_simp_entrywise
  simp only [h, h', StableHlo.TRef.ofBuf_toBuf]
  rw [← remHost_prev c]
  rfl
/-- The three numbers, each as a vector of one entry, before they are set side by side: the device's own, -/
theorem first_place (h9 : U main_v9 = one (word c)) : StableHlo.after (hostOps0_4.take 10) U main_v24 = fun _ => word c := by
  unfold hostOps0_4
  simp only [List.take_succ_cons, List.take_zero]
  after_results_simp_entrywise
  simp only [h9]
  rfl
/-- the left neighbour's, found in the table of the ring's devices, -/
theorem second_place (h : U main_v18 = one (word (lft c))) (h' : U main_c_0 = fun i => lit1 (S16.rowMajor i)) :
    StableHlo.after (hostOps0_4.take 10) U main_v25 = fun _ => word (lft c) := by
  unfold hostOps0_4
  simp only [List.take_succ_cons, List.take_zero]
  after_results_simp_entrywise
  simp only [h, h']
  funext i
  refine Eq.trans ?_ (lookup (lft c))
  unfold broadcastInDim
  rw [show (Shape.Idx.first h_S_ : S_.Idx) = _ from funext fun a => a.elim0]
  refine congrFun (congrArg (fun z => shapeCast S_ (Host.dynamicSlice S1 _ z sliceFits_S16_S1) shapeCasts_S1_S_) (funext fun k => ?_)) _
  obtain rfl : k = 0 := Subsingleton.elim _ _
  rfl
/-- and the right neighbour's. -/
theorem third_place (h16 : U main_v16 = one (word (rgt c))) :
    StableHlo.after (hostOps0_4.take 10) U main_v26 = fun _ => word (rgt c) := by
  unfold hostOps0_4
  simp only [List.take_succ_cons, List.take_zero]
  after_results_simp_entrywise
  simp only [h16]
  rfl
/-- Setting three one-entry vectors side by side. -/
theorem side_by_side (h24 : U main_v24 = fun _ => word c) (h25 : U main_v25 = fun _ => word (lft c))
    (h26 : U main_v26 = fun _ => word (rgt c)) : StableHlo.after (hostOps0_4.drop 10) U main_v27 = places c := by
  unfold hostOps0_4
  simp only [List.drop_succ_cons, List.drop_zero, StableHlo.after_cons, StableHlo.after_nil]
  rw [StableHlo.nary_result]
  change concatenate S3 0 [⟨S1, U main_v24⟩, ⟨S1, U main_v25⟩, ⟨S1, U main_v26⟩] _ = _
  rw [h24, h25, h26]
  funext i
  obtain ⟨k, hk⟩ : ∃ k : Fin 3, k = i 0 := ⟨i 0, rfl⟩
  fin_cases k
  all_goals
    rw [show i = fun a => i a from rfl, show (fun a => i a) = Fin.cons (i 0) (fun a => a.elim0) from funext fun a => by obtain rfl : a = 0 := Subsingleton.elim _ _; rfl, ← hk]
    rfl
/-- The three numbers side by side. -/
theorem three_places (h : U main_v18 = one (word (lft c))) (h' : U main_c_0 = fun i => lit1 (S16.rowMajor i))
    (h9 : U main_v9 = one (word c)) (h16 : U main_v16 = one (word (rgt c))) :
    StableHlo.after hostOps0_4 U main_v27 = places c := by
  rw [show (hostOps0_4 (F := F)) = hostOps0_4.take 10 ++ hostOps0_4.drop 10 from (List.take_append_drop _ _).symm, StableHlo.after_append]
  exact side_by_side _ c (first_place U c h9) (second_place U c h h') (third_place U c h16)

variable (m : (ℓ : Loc nD τ sig) → Buf (Elt F) ℓ)

/-- When the kernel begins, every device's position table is as the kernel expects it. -/
theorem table_places : V5 m c main_v27 = places c := by
  have h9 : V4 m c main_v9 = one (word c) :=
    (V4_of m c main_v9 (by decide)).trans ((V3_of m c main_v9 (by decide)).trans ((V2_of m c main_v9 (by decide)).trans (own_place (V0 m c) c)))
  have hc : V1 m c main_c_0 = fun i => lit1 (S16.rowMajor i) := table_kept (V0 m c) c
  have hc2 : V2 m c main_c_0 = fun i => lit1 (S16.rowMajor i) := (V2_of m c main_c_0 (by decide)).trans hc
  have hc4 : V4 m c main_c_0 = fun i => lit1 (S16.rowMajor i) :=
    (V4_of m c main_c_0 (by decide)).trans ((V3_of m c main_c_0 (by decide)).trans hc2)
  have h11 : V2 m c main_v11 = one (word (rgt c)) := next_place (V1 m c) c (own_next (V0 m c) c) (ring_size (V0 m c) c)
  have h16 : V4 m c main_v16 = one (word (rgt c)) := (V4_of m c main_v16 (by decide)).trans (right_place (V2 m c) c h11 hc2)
  have h92 : V2 m c main_v9 = one (word c) := (V2_of m c main_v9 (by decide)).trans (own_place (V0 m c) c)
  have h18 : V4 m c main_v18 = one (word (lft c)) := prev_place (V3 m c) c (own_prev (V2 m c) c h92) (ring_size' (V2 m c))
  exact three_places (V4 m c) c h18 hc4 h9 h16

theorem lhs_kept : V5 m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans <| (V1_of m c main_arg0 (by decide)).trans rfl
theorem rhs_kept : V5 m c main_arg1 = m ((c : Thread nD τ).loc main_arg1) :=
  (V5_of m c main_arg1 (by decide)).trans <| (V4_of m c main_arg1 (by decide)).trans <| (V3_of m c main_arg1 (by decide)).trans <|
    (V2_of m c main_arg1 (by decide)).trans <| (V1_of m c main_arg1 (by decide)).trans rfl

end Cert.KernelIdeal.Ring

end
-- ==== Proof.Region.lean ====
module

public import proofs.«01_k».proof.Proof.Body
public import proofs.«01_k».proof.Proof.Gen.KernelIdeal.Regions
public import proofs.«01_k».proof.Proof.Gen.KernelIdeal.Points
public import Idealize.ShloMosaic.Lib.Pipeline.RegionTalk

/-! The kernel as a segment of the program: its proof data, its body obligation, and what it is entered with and leaves. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (V : Dev nD → Valuation τ sig (Elt F))

/-- Device `c`'s block of columns of the left operand, as the kernel is entered. -/
abbrev lhs (c : Dev nD) : Vec F S4096x256 .f32 := V c main_arg0
/-- Device `c`'s block of rows of the right operand. -/
abbrev rhs (c : Dev nD) : Vec F S256x8192 .f32 := V c main_arg1
/-- What hop `h` carries on device `c`. -/
abbrev carried : ℕ → Dev nD → Vec F S1x256x8192 .f32 := vals (lhs V) (rhs V)
/-- Device `c`'s buffers after the kernel: the result is finished, all else is as before. -/
def left (c : Dev nD) : Valuation τ sig (Elt F) := Function.update (V c) main_v28 (outFin (carried V) c)

theorem left_out (c : Dev nD) : left V c main_v28 = outFin (carried V) c := Function.update_self ..
theorem left_ne (c : Dev nD) (b : DevRef τ sig) (h : b ≠ Proc.devRef .tc main_v28) : left V c b = V c b := Function.update_of_ne h ..

/-! ## The kernel's own semaphores -/

/-- The kernel's own semaphores, in order. -/
abbrev osem : Fin 6 → SemLoc sig := fun
  | 0 => .reg credS | 1 => .dma (sendS 0 z2) | 2 => .dma (sendS 1 o2) | 3 => .dma (recvS 0 z2) | 4 => .dma (recvS 1 o2) | 5 => .dma copyS

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem ownSems_eq (c : Dev nD) : (Pipeline.ownSems0 osem c : sProp 𝕄) = zeros c :=
  bigSep_six fun k => (semVal ((c : Thread nD τ), osem k) 0 : sProp 𝕄)

/-- The rights to open the kernel's own cells. -/
def closedCells (c : Dev nD) : sProp 𝕄 :=
  iprop(openTok ER (credCell c) ∗ openTok ER (sendCell c 0 z2) ∗ openTok ER (sendCell c 1 o2)
    ∗ openTok ER (recvCell c 0 z2) ∗ openTok ER (recvCell c 1 o2) ∗ openTok ER (copyCell c))

/-- Opening the kernel's own cells from their counters at zero. -/
theorem open_cells (B : ℕ → Dev nD → Vec F S1x256x8192 .f32) (K : GSem nD τ sig → ℕ) (c : Dev nD) :
    iprop(invs B K ∗ closedCells c ∗ zeros c) ⊢ (|={Set.univ}=> opened c : sProp 𝕄) := by
  have op (g : GSem nD τ sig) (hg : g ∈ allCells) : iprop(invs B K ∗ openTok ER g ∗ semVal g 0) ⊢ (|={Set.univ}=> (atPos ER g 0 ∅ 0 ∗ reached ER g 0) : sProp 𝕄) := by
    iintro ⟨#HI, Ho, Hs⟩
    iapply (Rounds.cell_open ER (sched B) (g := g) (Set.mem_univ (K g)))
    isplitr; · iapply (inv_of B K g hg); iexact HI
    isplitl [Ho] <;> iassumption
  unfold closedCells zeros opened onSend onRecv
  iintro ⟨#HI, ⟨H0, H1, H2, H3, H4, H5⟩, Z0, Z1, Z2, Z3, Z4, Z5⟩
  imod (op _ (cred_mem c)) $$ [H0 Z0] with A0
  · isplitr; · iexact HI
    isplitl [H0] <;> iassumption
  imod (op _ (send_mem c 0 z2)) $$ [H1 Z1] with A1
  · isplitr; · iexact HI
    isplitl [H1] <;> iassumption
  imod (op _ (send_mem c 1 o2)) $$ [H2 Z2] with A2
  · isplitr; · iexact HI
    isplitl [H2] <;> iassumption
  imod (op _ (recv_mem c 0 z2)) $$ [H3 Z3] with A3
  · isplitr; · iexact HI
    isplitl [H3] <;> iassumption
  imod (op _ (recv_mem c 1 o2)) $$ [H4 Z4] with A4
  · isplitr; · iexact HI
    isplitl [H4] <;> iassumption
  imod (op _ (copy_mem c)) $$ [H5 Z5] with A5
  · isplitr; · iexact HI
    isplitl [H5] <;> iassumption
  imodintro
  isplitl [A0]; · iexact A0
  isplitl [A1 A2]; · isplitl [A1] <;> iassumption
  isplitl [A3 A4]; · isplitl [A3] <;> iassumption
  iexact A5

/-- All that device `c` owes at launch is owed above level 0. -/
theorem above_start (c : Dev nD) : Above 0 (O₀ c) := by
  unfold O₀
  exact above_add (above_add (above_mono (by omega) (above_owe c 0)) (above_tally _ _ _ _ (by omega) Nat.zero_lt_one))
    (above_tally _ _ _ _ (by omega) Nat.zero_lt_one)

/-! ## The proof data -/

/-- What the launch keeps for the kernel on device `c`. -/
def kept (c : Dev nD) : sProp 𝕄 := iprop((∃ K, invs (carried V) K ∗ closedCells c) ∗ barSt c ∗ toks c)
/-- The same once the kernel's own cells are open. -/
def ready (c : Dev nD) : sProp 𝕄 := iprop((∃ K, invs (carried V) K ∗ opened c) ∗ barSt c ∗ toks c ∗ levAts L lv)

/-- The result buffer of device `c`. -/
abbrev outBuf (c : Dev nD) (f : (main_v28 : Ref sig .tc).ty.Contents (Elt F)) : sProp 𝕄 := (c : Thread nD τ).loc main_v28 ↦{fullShare} f

/-- Before the kernel's one point, and after it. -/
def before (c : Dev nD) : sProp 𝕄 := iprop((∃ f, scratch c f) ∗ (∃ r, prngReg c r) ∗ outBuf c (V c main_v28) ∗ ready V c)
def after (c : Dev nD) : sProp 𝕄 :=
  iprop((∃ f, scratch c f) ∗ (∃ r, prngReg c r) ∗ outBuf c (outFin (carried V) c) ∗ zeros c ∗ semVal (barCell c) 0)

/-- The kernel's proof data on device `c`: operands staged whole and unchanged; all dues paid. -/
def dat0 (c : Dev nD) : Dat τ (Elt F) ℕ ℕ UU ℕ cfg0 c where
  A w := V c (Pipeline.arrRef spec0 w)
  after w _ := match w with
    | ⟨0, _⟩ => (V c main_v27 : Vec F S3 .i32)
    | ⟨1, _⟩ => lhs V c
    | ⟨2, _⟩ => rhs V c
  Φ t := if t.val = 0 then before V c else after V c
  q _ := fullShare
  owed t := if t.val = 0 then O₀ c else 0

def pdats : (p : Fin 1) → (c : Dev nD) → Dat τ (Elt F) ℕ ℕ UU ℕ (Pipeline.pin (pcfgs (F := F)) adm p) c
  | 0 => dat0 V

/-- The one block of a window on a whole array is the array. -/
theorem whole_emb {s : Shape} {e : EltTy} {cs : CoreSpace} (arr : Memref sig .tc .hbm s e) (o y : Bool)
    (stage : Memref sig .tc (.core cs) ⟨s.rank, s.size⟩ e) (sem : DmaSem sig) (harr : arr.IsWhole) (hstage : stage.IsWhole)
    (t : Fin Pipeline.Grid.none.N) (j : s.Idx) : ((Pipeline.Window.whole arr o y stage sem harr hstage).blk t).view.emb j = arr.view.emb j := by
  show arr.view.emb (((Pipeline.Window.whole arr o y stage sem harr hstage).rect t).emb j) = _
  refine congrArg arr.view.emb (funext fun a => Fin.ext ?_)
  rw [Rect.emb_apply]
  show 0 * s.size a + 1 * (j a).val = (j a).val
  omega

theorem read0 (f : (main_v27 : Ref sig .tc).ty.Contents (Elt F)) : ((cfg0.win 0).blk t0_0).view.read (Elt F) f = f :=
  funext fun j => congrArg f (whole_emb (Memref.whole main_v27) false false (stage0_0 0) (sem0_0 0) (Memref.isWhole_whole _) (hstage0_0 0) t0_0 j)
theorem read1 (f : (main_arg0 : Ref sig .tc).ty.Contents (Elt F)) : ((cfg0.win 1).blk t0_0).view.read (Elt F) f = f :=
  funext fun j => congrArg f (whole_emb (Memref.whole main_arg0) false false (stage0_1 0) (sem0_1 0) (Memref.isWhole_whole _) (hstage0_1 0) t0_0 j)
theorem read2 (f : (main_arg1 : Ref sig .tc).ty.Contents (Elt F)) : ((cfg0.win 2).blk t0_0).view.read (Elt F) f = f :=
  funext fun j => congrArg f (whole_emb (Memref.whole main_arg1) false false (stage0_2 0) (sem0_2 0) (Memref.isWhole_whole _) (hstage0_2 0) t0_0 j)

theorem before0 (c : Dev nD) (d) : (dat0 V c).before 0 t0_0 d = V c main_v27 := by
  unfold Dat.before; rw [if_pos (by decide)]; exact read0 (F := F) _
theorem before1 (c : Dev nD) (d) : (dat0 V c).before 1 t0_0 d = lhs V c := by
  unfold Dat.before; rw [if_pos (by decide)]; exact read1 (F := F) _
theorem before2 (c : Dev nD) (d) : (dat0 V c).before 2 t0_0 d = rhs V c := by
  unfold Dat.before; rw [if_pos (by decide)]; exact read2 (F := F) _

theorem owed_first (c : Dev nD) : (dat0 V c).owed t0_0.castSucc = O₀ c := by
  show (if (t0_0.castSucc : Fin (cfg0.N + 1)).val = 0 then O₀ c else 0) = O₀ c; exact if_pos rfl
theorem owed_zero (c : Dev nD) : (pdats V 0 c).owed 0 = O₀ c := by
  show (if ((0 : Fin (cfg0.N + 1)).val = 0) then O₀ c else 0) = O₀ c; exact if_pos rfl
theorem owed_last (c : Dev nD) : (pdats V 0 c).owed (Fin.last _) = 0 := by
  show (if (Fin.last cfg0.N).val = 0 then O₀ c else 0) = 0
  rw [Fin.val_last, if_neg (by rw [show cfg0.N = 1 from N_0]; decide)]

/-- What a core owes, as the proof data states it at a point, and back. -/
theorem owesAt_intro (c : Dev nD) (t : Fin (cfg0.N + 1)) (O : CellTallies nD τ sig ℕ) (h0 : (dat0 V c).owed t = O) :
    iprop(∃ W, owes (c : Thread nD τ) O W) ⊢ ((dat0 V c).owesAt 0 t : sProp 𝕄) := by
  unfold Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig ℕ) (h0 : (dat0 V c).owed t = O) :
    ((dat0 V c).owesAt 0 t : sProp 𝕄) ⊢ iprop(∃ W, owes (c : Thread nD τ) O W) := by
  unfold Dat.owesAt Pipeline.owesWithin; rw [h0]
  iintro ⟨%W, -, HO⟩; iexists W; iexact HO

theorem phi_first (c : Dev nD) : (dat0 V c).Φ t0_0.castSucc = before V c := by
  show (if (t0_0.castSucc : Fin (cfg0.N + 1)).val = 0 then before V c else after V c) = _; exact if_pos rfl
theorem phi_next (c : Dev nD) : (dat0 V c).Φ t0_0.succ = after V c := by
  show (if (t0_0.succ : Fin (cfg0.N + 1)).val = 0 then before V c else after V c) = _
  exact if_neg (Nat.succ_ne_zero _)

/-- The run of the body as the pipeline calls it at its one point. -/
theorem point_run (K : GSem nD τ sig → ℕ) (c : Dev nD) (f₀) (W : Waits sig ℕ) (Q : PUnit → sProp 𝕄) :
    iprop((owns (c : Thread nD τ) (st0_0 t0_0) fullShare (places (F := F) c) ∗ barrierPre (st0_1 t0_0) (st0_2 t0_0) (lhs V) (rhs V) K c f₀ W)
        ∗ ((owns (c : Thread nD τ) (st0_0 t0_0) fullShare (places (F := F) c) ∗ bodyPost (st0_1 t0_0) (st0_2 t0_0) (lhs V) (rhs V) c) -∗ Q ⟨⟩))
      ⊢ wp frame (wpE (defs₀ (F := F)) 𝒱₀ c none) Set.univ (bodyAt0 (F := F) t0_0) Q :=
  (body_run (st0_1 t0_0) (st0_2 t0_0) (lhs V) (rhs V) (st0_0 t0_0) K c f₀ W Q).trans
    (Entails.of_eq (congrArg (fun p => wp frame (wpE (defs₀ (F := F)) 𝒱₀ c none) Set.univ p Q) (cc0_body_eq _ _ _ _ _ _ _ _ _ _ _ _ _ _).symm))

/-- The kernel's body obligation. -/
theorem body_obligation (hV : ∀ c, V c main_v27 = places (F := F) c) (c : Dev nD) : BodyObligation (dat0 V c) (defs₀ (F := F)) 𝒱₀ 0 Set.univ := fun t => by
  obtain rfl := fin_N0 t
  rw [bigSep_W0, bigSep_W0, phi_first, phi_next]
  unfold before ready after
  iintro ⟨⟨Hs, Hp, Ho, ⟨⟨%K, HI, Hop⟩, Hb, Ht, Hl⟩⟩, HO, ⟨%d0, H0⟩, ⟨%d1, H1⟩, ⟨%d2, H2⟩⟩
  ihave H0 := (Entails.of_eq (congrArg (owns (c : Thread nD τ) (st0_0 t0_0) fullShare) ((before0 V c d0).trans (hV c)))) $$ H0
  ihave H1 := (Entails.of_eq (congrArg (owns (c : Thread nD τ) (st0_1 t0_0) fullShare) (before1 V c d1))) $$ H1
  ihave H2 := (Entails.of_eq (congrArg (owns (c : Thread nD τ) (st0_2 t0_0) fullShare) (before2 V c d2))) $$ H2
  ihave HO := (owesAt_elim V c _ (O₀ c) (owed_first V c)) $$ HO
  icases HO with ⟨%W, HO⟩
  iapply (point_run V K c (V c main_v28) W _)
  isplitl [H0 H1 H2 HI Hl Hb Ht Hop Hs Ho HO]
  · isplitl [H0]; · iexact H0
    unfold barrierPre operands
    isplitl [HI]; · iexact HI
    isplitl [Hl]; · iexact Hl
    isplitl [H1 H2]; · isplitl [H1] <;> iassumption
    isplitl [Hb]; · iexact Hb
    isplitl [Ht]; · iexact Ht
    isplitl [Hop]; · iexact Hop
    isplitl [Hs]; · iexact Hs
    isplitl [Ho]; · iexact Ho
    iexact HO
  unfold bodyPost operands
  iintro ⟨H0, ⟨H1, H2⟩, Hs, Ho, Hb, Hz, HO⟩
  isplitl [Hs Hp Ho Hz Hb]
  · isplitl [Hs]; · iexact Hs
    isplitl [Hp]; · iexact Hp
    isplitl [Ho]; · iexact Ho
    isplitl [Hz]; · iexact Hz
    iexact Hb
  isplitl [HO]; · iapply (owesAt_intro V c t0_0.succ 0 (owed_last V c)); iexact HO
  isplitl [H0]
  · iapply (Entails.of_eq (congrArg (owns (c : Thread nD τ) (st0_0 t0_0) fullShare) (hV c).symm)); iexact H0
  isplitl [H1]; · iexact H1
  iexact H2

/-! ## The segment -/

theorem kitP : Pipeline.PLaunchFacts (nD := nD) (τ := τ) (pcfgs (F := F)) 0 := launch0.toP

theorem out_not_arr : (Proc.devRef .tc main_v28 : DevRef τ sig) ∉ Pipeline.arrRefs (τ := τ) spec0 := by decide
theorem arr_sub : Pipeline.arrRefs (τ := τ) spec0 ⊆ Pipeline.ucRefs τ sig := Pipeline.arrRefs_sub_ucRefs spec0 (by decide)
/-- The unscoped buffers that no window stages. -/
abbrev others : Finset (DevRef τ sig) := Pipeline.ucRefs τ sig \ Pipeline.arrRefs (τ := τ) spec0
/-- The one of them that the kernel addresses itself. -/
abbrev outRefs : Finset (DevRef τ sig) := {Proc.devRef .tc main_v28}
theorem out_sub : outRefs ⊆ others := by
  intro b hb
  rw [Finset.mem_singleton.mp hb]
  exact Finset.mem_sdiff.mpr ⟨Finset.mem_filter.mpr ⟨StableHlo.devRef_mem_tcRefs main_v28, by decide⟩, out_not_arr⟩

theorem held_out (c : Dev nD) (W : Valuation τ sig (Elt F)) :
    (StableHlo.held (c.tc : Thread nD τ) outRefs W : sProp 𝕄) = outBuf c (W main_v28) := by
  unfold StableHlo.held; rw [bigSep_singleton]

/-- A tally that is owed sits above the staging waits. -/
theorem cut (c : Dev nD) (t : Fin ((Pipeline.pin (pcfgs (F := F)) adm 0).N + 1)) (g : GSem nD τ sig) (i : ℕ)
    (h : 0 < (pdats V 0 c).owed t g i) : i ∈ L g ∧ (0 : ℕ) < lv g i := by
  have e : (pdats V 0 c).owed t = if t.val = 0 then O₀ c else 0 := rfl
  rw [e] at h
  split at h
  · exact above_start c g i h
  · exact absurd h (Nat.lt_irrefl 0)

theorem stage_level (c : Dev nD) (w : Fin cfg0.W) (s : Fin (cfg0.win w).nbuf) :
    (0 : ℕ) ∈ L ((c : Thread nD τ), .dma ((cfg0.win w).sem s)) ∧ lv ((c : Thread nD τ), .dma ((cfg0.win w).sem s)) 0 ≤ 0 := by
  refine ⟨by rw [L_tc]; decide, ?_⟩
  fin_cases w <;> exact le_of_eq rfl

/-- Opening at the kernel's entry. -/
theorem opening (c : Dev nD) : iprop(kept V c ∗ Pipeline.ownSems0 osem c ∗ levAts L lv) ⊢ (|={Set.univ}=> ready V c : sProp 𝕄) := by
  rw [ownSems_eq]
  unfold kept ready
  iintro ⟨⟨⟨%K, #HI, Hc⟩, Hb, Ht⟩, Hz, Hl⟩
  imod (open_cells (carried V) K c) $$ [Hc Hz] with Ho
  · isplitr; · iexact HI
    isplitl [Hc] <;> iassumption
  imodintro
  isplitl [Ho]
  · iexists K
    isplitr; · iexact HI
    iexact Ho
  isplitl [Hb]; · iexact Hb
  isplitl [Ht]; · iexact Ht
  iexact Hl

theorem entering (c : Dev nD) : iprop(Pipeline.scopedRest (Pipeline.pin (pcfgs (F := F)) adm 0).spec c ∗ (∃ r, prngReg c r) ∗ StableHlo.held (c.tc : Thread nD τ) outRefs (V c) ∗ ready V c)
    ⊢ (pdats V 0 c).Φ 0 := by
  rw [show (pdats V 0 c).Φ 0 = before V c from rfl, held_out]
  unfold before
  rw [show (Pipeline.scopedRest (Pipeline.pin (pcfgs (F := F)) adm 0).spec c : sProp 𝕄) = _ from scopedRest0_eq c]

theorem leaving (c : Dev nD) : (pdats V 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) outRefs (left V c) ∗ Pipeline.ownSems0 osem c ∗ semVal (barCell c) 0) := by
  rw [show (pdats V 0 c).Φ (Fin.last (Pipeline.pin (pcfgs (F := F)) adm 0).N) = after V c from phi_next V c, held_out, ownSems_eq, left_out,
    show (Pipeline.scopedRest (Pipeline.pin (pcfgs (F := F)) adm 0).spec c : sProp 𝕄) = _ from scopedRest0_eq c]
  exact .rfl

theorem arr_kept (c : Dev nD) (w : Fin cfg0.W) : (dat0 V c).arrAt w cfg0.N = left V c (Proc.devRef .tc (Pipeline.arrRef spec0 w)) := by
  rw [(dat0 V c).arrAt_in w ((by decide : ∀ w : Fin cfg0.W, (cfg0.win w).isOut = false) w),
    left_ne V c _ ((by decide : ∀ w : Fin cfg0.W, (Proc.devRef .tc (Pipeline.arrRef spec0 w) : DevRef τ sig) ≠ Proc.devRef .tc main_v28) w)]
  rfl

set_option backward.isDefEq.respectTransparency.types false in
/-- The kernel as a segment: entered at `V`, left at `left V`. -/
def segment (hV : ∀ c, V c main_v27 = places (F := F) c) : Pipeline.RegionSeg (pcfgs (F := F)) adm (pdats V) 0 defs₀ 𝒱₀ L lv 0 :=
  Pipeline.RegionSeg.ofTalk (pcfgs (F := F)) adm (pdats V) 0 defs₀ 𝒱₀ L lv 0 osem (by decide : Pipeline.OwnSemFacts spec0 osem)
    outRefs others out_sub kitP rfl (fun c => (body_obligation V hV c).loose)
    (fun _ => 0) O₀ (fun c => (owed_zero V c).trans (zero_add _).symm) (owed_last V) (fun _ => rfl) (fun _ _ => ite_self _)
    V (left V) (fun c b hb => left_ne V c b fun e => (Finset.mem_sdiff.mp hb).2 (Finset.mem_singleton.mpr e))
    (kept V) (fun c => semVal (barCell c) 0) (ready V) (fun c => semVal (barCell c) 0) (opening V) (entering V) (leaving V)
    (fun c => by iintro H; imodintro; iexact H)
    (fun _ => 0)
    ⟨fun c w s => (stage_level c w s).1, fun c w s => (stage_level c w s).2, fun c t g i h => cut V c t g i h⟩
    (fun _ => iprop(emp))
    (fun _ _ => rfl) (fun c w => arr_kept V c w)

end Cert.KernelIdeal.Ring

end
-- ==== Proof.Deal.lean ====
module

public import proofs.«01_k».proof.Proof.Region

/-! What the launch deals the devices: the token of every round to the device that pays it, the credit of every round to
    the device that waits for it. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Tokens -/

/-- A round of one device's cell, and who pays it. -/
abbrev Slip : Type := SemLoc sig × ℕ × Bool

def barSlips : Finset Slip := {(.reg barS, 0, true), (.reg barS, 0, false)}
def sendSlip (h : ℕ) : Slip := (.dma (sendS (src h) (src_lt h)), h / 2, false)
def recvSlip (h : ℕ) : Slip := (.dma (recvS (dst h) (dst_lt h)), h / 2, false)
def credSlip (h : ℕ) : Slip := (.reg credS, h, false)
def copySlip (j : ℕ) : Slip := (.dma copyS, j, false)

theorem sendSlip_inj : Set.InjOn sendSlip (Finset.Ico 0 30) :=
  fun a ha b hb => (by decide +kernel : ∀ a ∈ Finset.Ico 0 30, ∀ b ∈ Finset.Ico 0 30, sendSlip a = sendSlip b → a = b) a (Finset.mem_coe.mp ha) b (Finset.mem_coe.mp hb)
theorem recvSlip_inj : Set.InjOn recvSlip (Finset.Ico 0 30) :=
  fun a ha b hb => (by decide +kernel : ∀ a ∈ Finset.Ico 0 30, ∀ b ∈ Finset.Ico 0 30, recvSlip a = recvSlip b → a = b) a (Finset.mem_coe.mp ha) b (Finset.mem_coe.mp hb)
theorem credSlip_inj : Set.InjOn credSlip (Finset.Ico 0 29) := fun _ _ _ _ h => congrArg (fun x : Slip => x.2.1) h
theorem copySlip_inj : Set.InjOn copySlip (Finset.Ico 0 16) := fun _ _ _ _ h => congrArg (fun x : Slip => x.2.1) h

/-- Every round that is paid on one device's cells. -/
def slips : Finset Slip :=
  barSlips ∪ ((Finset.Ico 0 30).image sendSlip ∪ ((Finset.Ico 0 30).image recvSlip ∪ ((Finset.Ico 0 29).image credSlip ∪ (Finset.Ico 0 16).image copySlip)))

theorem apart1 : Disjoint barSlips ((Finset.Ico 0 30).image sendSlip ∪ ((Finset.Ico 0 30).image recvSlip ∪ ((Finset.Ico 0 29).image credSlip ∪ (Finset.Ico 0 16).image copySlip))) := by decide +kernel
theorem apart2 : Disjoint ((Finset.Ico 0 30).image sendSlip) ((Finset.Ico 0 30).image recvSlip ∪ ((Finset.Ico 0 29).image credSlip ∪ (Finset.Ico 0 16).image copySlip)) := by decide +kernel
theorem apart3 : Disjoint ((Finset.Ico 0 30).image recvSlip) ((Finset.Ico 0 29).image credSlip ∪ (Finset.Ico 0 16).image copySlip) := by decide +kernel
theorem apart4 : Disjoint ((Finset.Ico 0 29).image credSlip) ((Finset.Ico 0 16).image copySlip) := by decide +kernel

/-- Every round that is paid on any device's cells. -/
def allToks : Finset (GSem nD τ sig × ℕ × Bool) :=
  (Finset.univ ×ˢ slips).map ⟨fun p : Dev nD × Slip => (((p.1 : Thread nD τ), p.2.1), p.2.2.1, p.2.2.2), fun p q h => by
    have h1 := congrArg (fun t : GSem nD τ sig × ℕ × Bool => t.1.1.1) h
    have h2 := congrArg (fun t : GSem nD τ sig × ℕ × Bool => t.1.2) h
    have h3 := congrArg (fun t : GSem nD τ sig × ℕ × Bool => t.2) h
    exact Prod.ext h1 (Prod.ext h2 h3)⟩

/-- Over a disjoint union, the two parts side by side. -/
theorem bigSep_join {I : Type} [DecidableEq I] {s t : Finset I} (h : Disjoint s t) {Φ : I → sProp 𝕄} :
    bigSep (s ∪ t) Φ = iprop(bigSep s Φ ∗ bigSep t Φ) := bigSep_union h
/-- Over the pairs of two sets, row by row. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert a s ha ih =>
    have hd : Disjoint (t.map ⟨fun j => (a, j), fun _ _ h => congrArg Prod.snd h⟩) (s ×ˢ t) := Finset.disjoint_left.mpr fun x hx hs => by
      obtain ⟨j, -, rfl⟩ := Finset.mem_map.mp hx
      exact ha (Finset.mem_product.mp hs).1
    rw [bigSep_insert ha, ← ih, show insert a s ×ˢ t = t.map ⟨fun j => (a, j), fun _ _ h => congrArg Prod.snd h⟩ ∪ s ×ˢ t from by
      ext x; rcases x with ⟨i, j⟩
      rw [Finset.mem_union, Finset.mem_product, Finset.mem_insert, Finset.mem_product]
      constructor
      · rintro ⟨h, hj⟩
        rcases h with h | h
        · have e : i = a := h
          subst e
          exact .inl (Finset.mem_map.mpr ⟨j, hj, rfl⟩)
        · exact .inr ⟨h, hj⟩
      · rintro (h | ⟨h, hj⟩)
        · obtain ⟨k, hk, e⟩ := Finset.mem_map.mp h
          have e1 : a = i := congrArg Prod.fst e
          have e2 : k = j := congrArg Prod.snd e
          subst e1; subst e2
          exact ⟨.inl rfl, hk⟩
        · exact ⟨.inr h, hj⟩, bigSep_union hd, bigSep_map]
    rfl

/-- The tokens on one device's cells, by kind. -/
theorem slips_split (c : Dev nD) : (bigSep slips fun x => (dutyTok ER ((c : Thread nD τ), x.1) x.2.1 x.2.2 : sProp 𝕄))
    = iprop((dutyTok ER (barCell c) 0 true ∗ dutyTok ER (barCell c) 0 false)
      ∗ (bigSep (Finset.Ico 0 30) fun h => dutyTok ER (sendCell c (src h) (src_lt h)) (h / 2) false)
      ∗ (bigSep (Finset.Ico 0 30) fun h => dutyTok ER (recvCell c (dst h) (dst_lt h)) (h / 2) false)
      ∗ (bigSep (Finset.Ico 0 29) fun h => dutyTok ER (credCell c) h false)
      ∗ (bigSep (Finset.Ico 0 16) fun j => dutyTok ER (copyCell c) j false)) := by
  unfold slips
  rw [bigSep_join apart1, bigSep_join apart2, bigSep_join apart3, bigSep_join apart4,
    bigSep_image_of_injOn sendSlip_inj, bigSep_image_of_injOn recvSlip_inj, bigSep_image_of_injOn credSlip_inj, bigSep_image_of_injOn copySlip_inj]
  unfold barSlips
  rw [bigSep_insert (by decide), bigSep_singleton]
  rfl

/-- The tokens that device `c` is dealt: of the rounds it pays. -/
def dealt (c : Dev nD) : sProp 𝕄 :=
  iprop((dutyTok ER (barCell (lft c)) 0 true ∗ dutyTok ER (barCell (rgt c)) 0 false)
      ∗ (bigSep (Finset.Ico 0 30) fun h => dutyTok ER (sendCell c (src h) (src_lt h)) (h / 2) false)
      ∗ (bigSep (Finset.Ico 0 30) fun h => dutyTok ER (recvCell (rgt c) (dst h) (dst_lt h)) (h / 2) false)
      ∗ (bigSep (Finset.Ico 0 29) fun h => dutyTok ER (credCell (lft c)) h false)
      ∗ (bigSep (Finset.Ico 0 16) fun j => dutyTok ER (copyCell c) j false))

/-- All tokens, each at the device that pays its round. -/
theorem deal : (bigSep allToks fun x => (dutyTok ER x.1 x.2.1 x.2.2 : sProp 𝕄)) = bigSep Finset.univ fun c : Dev nD => dealt c := by
  unfold allToks dealt
  rw [bigSep_map, bigSep_pairs]
  refine (bigSep_congr (s := Finset.univ) fun (c : Dev nD) _ => slips_split (F := F) c).trans ?_
  simp only [bigSep_sep']
  rw [bigSep_univ_equiv ring.symm fun c : Dev nD => (dutyTok ER (barCell c) 0 true : sProp 𝕄),
    bigSep_univ_equiv ring fun c : Dev nD => (dutyTok ER (barCell c) 0 false : sProp 𝕄),
    bigSep_univ_equiv ring fun c : Dev nD => (bigSep (Finset.Ico 0 30) fun h => dutyTok ER (recvCell c (dst h) (dst_lt h)) (h / 2) false : sProp 𝕄),
    bigSep_univ_equiv ring.symm fun c : Dev nD => (bigSep (Finset.Ico 0 29) fun h => dutyTok ER (credCell c) h false : sProp 𝕄)]
  rfl

/-! ## Credits -/

/-- The credits that device `c` is dealt: of the rounds it waits for. -/
def wages (c : Dev nD) : sProp 𝕄 :=
  iprop(cred (tallyAt (barCell c) 0 2) ∗ (bigSep (Finset.Ico 0 30) fun h => cred (tallyAt (recvCell c (dst h) (dst_lt h)) h N))
    ∗ bigSep (Finset.Ico 0 29) fun h => cred (tallyAt (credCell c) h 1))

theorem wage_copy (c : Dev nD) (h : ℕ) : (Pipeline.launchCred (fun d => copyDue d h) c : sProp 𝕄) ⊢ cred (tallyAt (recvCell c (dst h) (dst_lt h)) h N) :=
  Pipeline.launchCred_tallyAt (.dma (recvS (dst h) (dst_lt h))) rgt lft rgt_lft lft_rgt h N c

theorem wage_cred (c : Dev nD) (h : ℕ) (hh : h < 29) : (Pipeline.launchCred (fun d => credDue d h) c : sProp 𝕄) ⊢ cred (tallyAt (credCell c) h 1) := by
  rw [show (fun d => credDue d h) = fun d : Dev nD => tallyAt (((lft d).tc : Thread nD τ), .reg credS) h 1 from funext fun d => if_pos hh]
  exact Pipeline.launchCred_tallyAt (.reg credS) lft rgt lft_rgt rgt_lft h 1 c

theorem wage_owe (c : Dev nD) : (Pipeline.launchCred (fun d => owe d 0) c : sProp 𝕄)
    ⊢ iprop((bigSep (Finset.Ico 0 30) fun h => cred (tallyAt (recvCell c (dst h) (dst_lt h)) h N)) ∗ bigSep (Finset.Ico 0 29) fun h => cred (tallyAt (credCell c) h 1)) := by
  unfold owe
  rw [Pipeline.launchCred_sum (Finset.Ico 0 30) fun k d => credDue d k + copyDue d k]
  simp only [Pipeline.launchCred_add, bigSep_sep']
  have h1 : (bigSep (Finset.Ico 0 30) fun h => (Pipeline.launchCred (fun d => copyDue d h) c : sProp 𝕄)) ⊢ bigSep (Finset.Ico 0 30) fun h => cred (tallyAt (recvCell c (dst h) (dst_lt h)) h N) :=
    bigSep_mono fun h _ => wage_copy c h
  have h2 : (bigSep (Finset.Ico 0 29) fun h => (Pipeline.launchCred (fun d => credDue d h) c : sProp 𝕄)) ⊢ bigSep (Finset.Ico 0 29) fun h => cred (tallyAt (credCell c) h 1) :=
    bigSep_mono fun h hh => wage_cred c h (Finset.mem_Ico.mp hh).2
  have h3 : (bigSep (Finset.Ico 0 30) fun h => (Pipeline.launchCred (fun d => credDue d h) c : sProp 𝕄)) ⊢ iprop((bigSep (Finset.Ico 0 29) fun h => (Pipeline.launchCred (fun d => credDue d h) c : sProp 𝕄)) ∗ Pipeline.launchCred (fun d => credDue d 29) c) := by
    rw [show Finset.Ico 0 30 = insert 29 (Finset.Ico 0 29) from by decide, bigSep_insert (by simp)]
    show iprop(Pipeline.launchCred (fun d => credDue d 29) c ∗ _) ⊢ _
    iintro ⟨H1, H2⟩
    isplitl [H2] <;> iassumption
  iintro ⟨HA, HB⟩
  isplitl [HB]; · iapply h1; iexact HB
  ihave H := h3 $$ HA
  icases H with ⟨H, -⟩
  iapply h2; iexact H

/-- What the launch credits device `c` with. -/
theorem wages_intro (c : Dev nD) : (Pipeline.launchCred O₀ c : sProp 𝕄) ⊢ wages c := by
  have hb1 : (Pipeline.launchCred (fun d => tallyAt (barCell (rgt d)) 0 1) c : sProp 𝕄) ⊢ cred (tallyAt (barCell c) 0 1) :=
    Pipeline.launchCred_tallyAt (.reg barS) rgt lft rgt_lft lft_rgt 0 1 c
  have hb2 : (Pipeline.launchCred (fun d => tallyAt (barCell (lft d)) 0 1) c : sProp 𝕄) ⊢ cred (tallyAt (barCell c) 0 1) :=
    Pipeline.launchCred_tallyAt (.reg barS) lft rgt lft_rgt rgt_lft 0 1 c
  rw [show O₀ = fun d => (owe d 0 + tallyAt (barCell (rgt d)) 0 1) + tallyAt (barCell (lft d)) 0 1 from rfl, Pipeline.launchCred_add, Pipeline.launchCred_add]
  unfold wages
  rw [show (tallyAt (barCell c) 0 2 : CellTallies nD τ sig ℕ) = tallyAt (barCell c) 0 1 + tallyAt (barCell c) 0 1 from (tallyAt_add (barCell c) 0 1 1).symm]
  iintro ⟨⟨HO, H1⟩, H2⟩
  isplitl [H1 H2]
  · iapply (cred_add (tallyAt (barCell c) 0 1) (tallyAt (barCell c) 0 1)).2
    isplitl [H1]
    · iapply hb1; iexact H1
    iapply hb2; iexact H2
  iapply wage_owe; iexact HO

/-- Tokens and credits together: all that the hops, the credits and the local copies need, and the barrier's. -/
theorem toks_intro (c : Dev nD) : iprop(dealt c ∗ wages c)
    ⊢ (iprop(toks c ∗ (dutyTok ER (barCell (lft c)) 0 true ∗ dutyTok ER (barCell (rgt c)) 0 false ∗ cred (tallyAt (barCell c) 0 2))) : sProp 𝕄) := by
  unfold dealt wages toks hopTok turnTok copyTok
  simp only [bigSep_sep']
  iintro ⟨⟨⟨Hb1, Hb2⟩, Hs, Hr, Hc, Hp⟩, Wb, Wr, Wc⟩
  isplitl [Hs Hr Hc Hp Wr Wc]
  · isplitl [Hs Hr Wr]
    · isplitl [Hs]; · iexact Hs
      isplitl [Hr] <;> iassumption
    isplitl [Hc Wc]
    · isplitl [Hc] <;> iassumption
    iexact Hp
  isplitl [Hb1]; · iexact Hb1
  isplitl [Hb2] <;> iassumption

end Cert.KernelIdeal.Ring

end
-- ==== Proof.Launch.lean ====
module

public import proofs.«01_k».proof.Proof.Deal

/-! From the launch to what each device enters the program with: the cells' invariants under one choice of names, the
    barrier's cells open, the kernel's own closed, tokens and credits dealt. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The two kinds of cells are apart. -/
theorem kinds_apart : Disjoint (cellsOf outer) (cellsOf inner) := Finset.disjoint_left.mpr fun g h h' => by
  obtain ⟨p, hp, rfl⟩ := Finset.mem_map.mp h
  obtain ⟨q, hq, e⟩ := Finset.mem_map.mp h'
  have e2 : q.2 = p.2 := congrArg (fun g : GSem nD τ sig => g.2) e
  exact (by decide : ∀ x ∈ outer, x ∉ inner) _ (Finset.mem_product.mp hp).2 (e2 ▸ (Finset.mem_product.mp hq).2)

/-- The protocol's part of the launch element. -/
abbrev ringPart : URounds (GSem nD τ sig) Bool := launchOf (cellsOf outer) (cellsOf inner) allToks
/-- The launch element: the staging cells' part and the protocol's. -/
def u₀ : UU := (initOf (Pipeline.cells cfgs cellOf_inj) (Pipeline.launchToks cfgs cellOf_inj), ringPart)

/-- The protocol's part, kept on device 0 until the devices' shares are cut from it. -/
def G (c : Dev nD) : sProp 𝕄 := if c = 0 then BI.own (ER ringPart) else iprop(emp)
theorem G_all : bigSep Finset.univ (G (F := F)) = BI.own (ER ringPart) := by
  rw [bigSep_univ_at _ (0 : Dev nD), bigSep_congr (s := Finset.univ.erase (0 : Dev nD)) (Φ := G (F := F)) (Ψ := fun _ => (BI.emp : sProp 𝕄))
    fun c hc => show G c = _ from if_neg (Finset.ne_of_mem_erase hc), BI.bigSep_emp_const]
  rw [show G (F := F) 0 = BI.own (ER ringPart) from if_pos rfl]
  exact BI.equiv_iff.mp sep_emp

/-- The launch element is its two parts. -/
theorem launch_parts : (ownU u₀ : sProp 𝕄)
    ⊢ |={Set.univ}=> iprop(BI.own (EP (initOf (Pipeline.cells cfgs cellOf_inj) (Pipeline.launchToks cfgs cellOf_inj))) ∗ bigSep Finset.univ (G (F := F))) := by
  rw [G_all]
  unfold u₀
  iintro Hu
  ihave H := (ownU_pair _ _) $$ Hu
  icases H with ⟨HP, HR⟩
  imodintro
  isplitl [HP] <;> iassumption

theorem bigSep_halves {I : Type} {s : Finset I} {Φ Ψ : I → sProp 𝕄} : bigSep s (fun i => iprop(Φ i ∗ Ψ i)) ⊢ iprop(bigSep s Φ ∗ bigSep s Ψ) :=
  Entails.of_eq (bigSep_sep' s Φ Ψ)
theorem bigSep_paired {I : Type} {s : Finset I} {Φ Ψ : I → sProp 𝕄} : iprop(bigSep s Φ ∗ bigSep s Ψ) ⊢ bigSep s fun i => iprop(Φ i ∗ Ψ i) :=
  Entails.of_eq (bigSep_sep' s Φ Ψ).symm

/-- Cells of one set of semaphores, device by device. -/
theorem bigSep_cellsOf (T : Finset (SemLoc sig)) (Φ : GSem nD τ sig → sProp 𝕄) :
    bigSep (cellsOf T) Φ = bigSep Finset.univ fun c : Dev nD => bigSep T fun sm => Φ ((c : Thread nD τ), sm) := by
  unfold cellsOf
  rw [bigSep_map, bigSep_pairs]
  rfl

theorem bigSep_outer (Φ : GSem nD τ sig → sProp 𝕄) : bigSep (cellsOf outer) Φ = bigSep Finset.univ fun c : Dev nD => Φ (barCell c) := by
  rw [bigSep_cellsOf]
  exact bigSep_congr fun c _ => by unfold outer; rw [bigSep_singleton]

theorem closed_eq (c : Dev nD) : (bigSep inner fun sm => (openTok ER ((c : Thread nD τ), sm) : sProp 𝕄)) = closedCells c := by
  unfold inner closedCells
  rw [bigSep_insert (by decide), bigSep_insert (by decide), bigSep_insert (by decide), bigSep_insert (by decide), bigSep_insert (by decide), bigSep_singleton]
  rfl

/-- The barrier's counter is the only one that outlives the kernel. -/
theorem unscoped_bar : ∀ sm : SemLoc sig, sm.isScoped .tc = false → sm = .reg barS := by decide

theorem counters_eq (c : Dev nD) : (unscopedSems0 c : sProp 𝕄) = semVal (barCell c) 0 := by
  unfold unscopedSems0
  rw [show (Finset.univ.filter fun sm : SemLoc sig => ¬ sm.isScoped .tc = true) = {SemLoc.reg barS} from by decide, bigSep_singleton]

variable (V : Dev nD → Valuation τ sig (Elt F))

/-- What every device may look up. -/
def common (K : GSem nD τ sig → ℕ) : sProp 𝕄 := iprop(invs (carried V) K ∗ bigSep Finset.univ fun c : Dev nD => reached ER (barCell c) 0)
instance (K : GSem nD τ sig → ℕ) : BI.Persistent (common V K) := by unfold common; infer_instance

/-- What device `c` alone has. -/
def share (c : Dev nD) : sProp 𝕄 :=
  iprop(atPos ER (barCell c) 0 ∅ 0 ∗ closedCells c ∗ dealt c)

/-- The rest of device `c`'s launch. -/
def purse (c : Dev nD) : sProp 𝕄 := iprop(wages c ∗ (∃ r, prngReg c r) ∗ ∃ W, owes (c : Thread nD τ) (O₀ c) W)

/-- What rides beside the buffers up to the kernel. -/
def rest (c : Dev nD) : sProp 𝕄 := iprop(kept V c ∗ (∃ r, prngReg c r) ∗ ∃ W, owes (c : Thread nD τ) (O₀ c) W)

theorem rest_intro (K : GSem nD τ sig → ℕ) (c : Dev nD) : iprop(common V K ∗ share c ∗ purse c) ⊢ rest V c := by
  have hr (d : Dev nD) : (bigSep Finset.univ fun c : Dev nD => (reached ER (barCell c) 0 : sProp 𝕄)) ⊢ reached ER (barCell d) 0 := bigSep_elim (Finset.mem_univ d)
  unfold common share purse rest kept barSt
  iintro ⟨⟨#HI, #HR⟩, ⟨Ha, Hc, Hd⟩, Hw, Hp, HO⟩
  ihave H := (toks_intro (F := F) c) $$ [Hd Hw]
  · isplitl [Hd] <;> iassumption
  icases H with ⟨Ht, Hb1, Hb2, Hcb⟩
  isplitr [Hp HO]
  · isplitl [Hc]
    · iexists K
      isplitr; · iexact HI
      iexact Hc
    isplitr [Ht]
    · isplitl [Ha]; · iexact Ha
      isplitr; · iapply (hr (lft c)); iexact HR
      isplitr; · iapply (hr (rgt c)); iexact HR
      isplitl [Hb1]; · iexact Hb1
      isplitl [Hb2] <;> iassumption
    iexact Ht
  isplitl [Hp] <;> iassumption

variable (ρ : Dev nD → PrngReg)

/-- The launch makes every device's rest at once. -/
theorem rest_launch :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (rest V) : sProp 𝕄) := by
  have sort (c : Dev nD) : iprop(unscopedSems0 c ∗ owes (c : Thread nD τ) (O₀ c) ∅ ∗ Pipeline.launchCred O₀ c ∗ prngReg c (ρ c) ∗ G c)
      ⊢ (iprop(purse c ∗ semVal (barCell c) 0 ∗ G c) : sProp 𝕄) := by
    rw [counters_eq]
    unfold purse
    iintro ⟨Hs, HO, Hc, Hp, HG⟩
    isplitl [HO Hc Hp]
    · isplitl [Hc]; · iapply (wages_intro (F := F) c); iexact Hc
      isplitl [Hp]; · iexists (ρ c); iexact Hp
      iexists ∅; iexact HO
    isplitl [Hs] <;> iassumption
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(purse c ∗ semVal (barCell c) 0 ∗ G c) : sProp 𝕄) from bigSep_mono fun c _ => sort c) $$ H
  ihave H2 := bigSep_halves $$ H'; icases H2 with ⟨Hp, H3⟩
  ihave H4 := bigSep_halves $$ H3; icases H4 with ⟨Hs, HG⟩
  ihave Hu := (show bigSep Finset.univ (G (F := F)) ⊢ BI.own (ER ringPart) from Entails.of_eq G_all) $$ HG
  ihave Hz := (show (bigSep Finset.univ fun c : Dev nD => (semVal (barCell c) 0 : sProp 𝕄)) ⊢ bigSep (cellsOf outer) (fun g => semVal g 0) from
    Entails.of_eq (bigSep_outer (F := F) fun g => semVal g 0).symm) $$ Hs
  imod (Rounds.fund_launch ER (sched (carried V)) kinds_apart (fun g _ h => h) allToks) $$ [Hz Hu] with ⟨%K, -, #HI, #HR, Hat, Hop, Htok⟩
  · isplitl [Hz] <;> iassumption
  imodintro
  iapply (bigSep_with_persistent (R := common V K) (Φ := fun c => iprop(share c ∗ purse c)) fun c _ => rest_intro V K c)
  isplitr
  · unfold common invs
    isplitr; · iexact HI
    iapply (Entails.of_eq (bigSep_outer (F := F) fun g => reached ER g 0)); iexact HR
  iapply bigSep_paired
  isplitr [Hp]
  · unfold share
    iapply bigSep_paired
    isplitl [Hat]; · iapply (Entails.of_eq (bigSep_outer (F := F) fun g => atPos ER g 0 ∅ 0)); iexact Hat
    iapply bigSep_paired
    isplitl [Hop]
    · iapply (show bigSep (cellsOf inner) (fun g => (openTok ER g : sProp 𝕄)) ⊢ bigSep Finset.univ fun c : Dev nD => closedCells c from
        Entails.of_eq ((bigSep_cellsOf (F := F) inner fun g => openTok ER g).trans (bigSep_congr fun c _ => closed_eq c)))
      iexact Hop
    iapply (Entails.of_eq (deal (F := F))); iexact Htok
  iexact Hp

end Cert.KernelIdeal.Ring

end
-- ==== Proof.Run.lean ====
module

public import proofs.«01_k».proof.Proof.Host
public import proofs.«01_k».proof.Proof.Launch
public import proofs.«01_k».proof.Proof.Gen.KernelIdeal.Regions

/-! The run of the whole program: every device ends with the gathered chunks in its result, its operands unchanged and all counters at zero. -/

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg RegionSeg)

variable {F : FTy → Type} [FloatOps F]

local notation "𝕄" => MT nD τ sig ℕ (Elt F) ℕ UU ℕ

variable (m : (ℓ : Loc nD τ sig) → Buf (Elt F) ℓ)

/-- The kernel's segment, entered with what the host computed. -/
abbrev kernelSeg : RegionSeg (pcfgs (F := F)) adm (pdats (V5 m)) 0 defs₀ 𝒱₀ L lv 0 := segment (V5 m) (fun c => table_places c m)

/-- What a device holds at the end. -/
def final (c : Dev nD) : sProp 𝕄 :=
  iprop(StableHlo.held (c : Thread nD τ) (Pipeline.ucRefs τ sig) (left (V5 m) c) ∗ semVal (barCell c) 0)

/-- What a device holds beside its buffers, before the kernel and after. -/
def side : Fin 2 → Dev nD → sProp 𝕄
  | 0, c => rest (V5 m) c
  | 1, c => iprop(semVal (barCell c) 0 ∗ ∃ W, owes (c : Thread nD τ) (0 : CellTallies nD τ sig ℕ) W)

theorem held_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split _ arr_sub W

set_option backward.isDefEq.respectTransparency.types false in
theorem kernel_pre (c : Dev nD) :
    iprop(StableHlo.held (c : Thread nD τ) (Pipeline.ucRefs τ sig) (V5 m c) ∗ side m 0 c) ⊢ (kernelSeg m).pre c := by
  rw [held_split]
  show iprop((StableHlo.held (c : Thread nD τ) (Pipeline.arrRefs (τ := τ) spec0) (V5 m c) ∗ StableHlo.held (c : Thread nD τ) others (V5 m c))
      ∗ (kept (V5 m) c ∗ (∃ r, prngReg c r) ∗ ∃ W, owes (c : Thread nD τ) (O₀ c) W))
    ⊢ iprop(StableHlo.held (c : Thread nD τ) (Pipeline.arrRefs (τ := τ) spec0) (V5 m c) ∗ (∃ r, prngReg c r)
      ∗ (StableHlo.held (c : Thread nD τ) others (V5 m c) ∗ emp) ∗ kept (V5 m) c ∗ ∃ W, owes (c : Thread nD τ) (0 + O₀ c) W)
  rw [zero_add]
  iintro ⟨⟨Ha, Ho⟩, Hk, Hp, HO⟩
  isplitl [Ha]; · iexact Ha
  isplitl [Hp]; · iexact Hp
  isplitl [Ho]
  · isplitl [Ho]; · iexact Ho
    itrivial
  isplitl [Hk]; · iexact Hk
  iexact HO

set_option backward.isDefEq.respectTransparency.types false in
theorem kernel_post (c : Dev nD) :
    (kernelSeg m).post c ⊢ iprop(final m c ∗ ∃ W, owes (c : Thread nD τ) (0 : CellTallies nD τ sig ℕ) W) := by
  unfold final
  rw [held_split]
  show iprop(StableHlo.held (c : Thread nD τ) (Pipeline.arrRefs (τ := τ) spec0) (left (V5 m) c) ∗ (∃ r, prngReg c r)
      ∗ (StableHlo.held (c : Thread nD τ) others (left (V5 m) c) ∗ emp) ∗ semVal (barCell c) 0 ∗ ∃ W, owes (c : Thread nD τ) (0 : CellTallies nD τ sig ℕ) W)
    ⊢ _
  iintro ⟨Ha, -, ⟨Ho, -⟩, Hb, HO⟩
  isplitr [HO]
  · isplitl [Ha Ho]
    · isplitl [Ha]; · iexact Ha
      iexact Ho
    iexact Hb
  iexact HO

/-- What the run leaves on device `c`. -/
def leaves (c : Dev nD) (s : MemSt nD τ sig (Elt F)) : Prop :=
  (∀ b ∈ Pipeline.ucRefs τ sig, s.mem ((c : Thread nD τ).1, b) = left (V5 m) c b) ∧ s.sem (barCell c) = 0

set_option backward.isDefEq.respectTransparency.types false in
/-- The whole run from any memory with zero counters: on every device every unscoped buffer ends as the kernel leaves it,
    and every counter of the machine ends at zero. -/
theorem run_left (ρ : Dev nD → PrngReg) : θ_run defs (onTc (τ := τ) (main (F := F))) ⟨m, fun _ => 0, ρ⟩
    (fun r => (∀ c : Dev nD, ∀ b ∈ Pipeline.ucRefs τ sig, r.2.mem ((c : Thread nD τ).1, b) = left (V5 m) c b) ∧ r.2.sem = fun _ => 0) := by
  refine Pipeline.θ_run_regions_kit_dev_sems (pcfgs (F := F)) adm (pdats (V5 m)) 0 cellOf_inj EP defs₀ 𝒱₀ L lv m ρ main
    (segs m 𝒱₀ L lv (side m) 0 (pdats (V5 m)) (kernelSeg m))
    (fun c Q => by
      rewrite [main_chain c, Seg.run_eq_chain,
        show (segs m 𝒱₀ L lv (side m) 0 (pdats (V5 m)) (kernelSeg m) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ launch_parts
    (T₀ := fun c => iprop(StableHlo.held (c : Thread nD τ) (Pipeline.ucRefs τ sig) (V0 m c) ∗ side m 0 c))
    (Tₙ := final m)
    (hch := fun c => ⟨.rfl, .rfl, .rfl, .rfl, .rfl, kernel_pre m c, kernel_post m c⟩)
    (hinit := ?_) (QY := leaves m)
    (hfin := fun c s' => ?_) (hQ := fun s h hs => ⟨fun c => (h c).1, sem_eq_zero hs fun c sm hsm => by
      obtain rfl := unscoped_bar sm hsm
      exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hl⟩
    ihave H' := hsplit $$ H
    icases H' with ⟨Hh, Hr⟩
    imod (rest_launch (V5 m) ρ) $$ [Hr Hl] with HE
    · isplitl [Hr]; · iexact Hr
      iexact Hl
    imodintro
    rw [bigSep_sep']
    isplitl [Hh]; · iexact Hh
    iexact HE
  · unfold final StableHlo.held
    iintro ⟨⟨Hh, Hb⟩, HSI⟩
    icombine HSI Hb gives %hb
    ihave Hr := (pointsTo_read_all (Pipeline.ucRefs τ sig) (fun b => ((c : Thread nD τ).1, b)) (left (V5 m) c) s') $$ [Hh HSI]
    · isplitl [Hh] <;> iassumption
    icases Hr with ⟨%h, HSI⟩
    imodintro
    isplitr
    · ipureintro
      exact ⟨h, by simpa using hb⟩
    · iexact HSI

theorem unscoped_mem (b : Ref sig .tc) (h : (Proc.devRef .tc b : DevRef τ sig).isScoped = true → False) : (Proc.devRef .tc b : DevRef τ sig) ∈ Pipeline.ucRefs τ sig :=
  Finset.mem_filter.mpr ⟨StableHlo.devRef_mem_tcRefs b, h⟩

/-- A device's operands at launch. -/
def lhs₀ (c : Dev nD) : (main_arg0 : Ref sig .tc).ty.Contents (Elt F) := m ((c : Thread nD τ).loc main_arg0)
def rhs₀ (c : Dev nD) : (main_arg1 : Ref sig .tc).ty.Contents (Elt F) := m ((c : Thread nD τ).loc main_arg1)

/-- The run: every device ends with the gathered chunks in its result, its operands unchanged and all counters at zero. -/
theorem run_main (ρ : Dev nD → PrngReg) : θ_run defs (onTc (τ := τ) (main (F := F))) ⟨m, fun _ => 0, ρ⟩
    (fun r => (∀ c : Dev nD, r.2.mem ((c : Thread nD τ).loc main_v28) = outFin (vals (lhs₀ m) (rhs₀ m)) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  refine (θ_run _ _ _).mono (fun r h => ⟨fun c => ⟨?_, ?_, ?_⟩, h.2⟩) (run_left m ρ)
  · have e0 : lhs (V5 m) = lhs₀ m := funext fun d => lhs_kept d m
    have e1 : rhs (V5 m) = rhs₀ m := funext fun d => rhs_kept d m
    rw [← e0, ← e1]
    exact (h.1 c _ (unscoped_mem main_v28 (by decide))).trans (left_out (V5 m) c)
  · exact (h.1 c _ (unscoped_mem main_arg0 (by decide))).trans ((left_ne (V5 m) c _ (by decide)).trans (lhs_kept c m))
  · exact (h.1 c _ (unscoped_mem main_arg1 (by decide))).trans ((left_ne (V5 m) c _ (by decide)).trans (rhs_kept c m))

end Cert.KernelIdeal.Ring

end
-- ==== Proof.Same.lean ====
module

public import proofs.«01_k».proof.Proof.Gen.Kernel.Regions
public import proofs.«01_k».proof.Proof.Gen.KernelIdeal.Regions

/-! The kernel and its idealization are one text: their body tables and main programs are equal, over any float values. -/

@[expose] public section

noncomputable section

namespace Cert.Proof

open Idealize.ShloMosaic Idealize.SL.Sem

variable {F : FTy → Type} [FloatOps F]

/-- The bodies are equal, -/
theorem body_same : @Cert.Kernel.cc0_body F _ _ = @Cert.KernelIdeal.cc0_body F _ _ := by
  unfold Cert.Kernel.cc0_body Cert.KernelIdeal.cc0_body
  rfl

/-- so the kernels' body tables, -/
theorem table_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => exact congrFun (congrFun (congrFun (congrFun (congrFun (congrFun (congrFun (congrFun (congrFun (congrFun (congrFun (congrFun (congrFun (congrFun
      (body_same (F := F)) _) _) _) _) _) _) _) _) _) _) _) _) _) _

/-- so the whole tables, -/
theorem defs_same : Cert.Kernel.defs (F := F) = Cert.KernelIdeal.defs (F := F) :=
  congrArg (Pipeline.defs Cert.KernelIdeal.pcfgs) table_same

/-- the host's operations before the call, stretch by stretch, -/
theorem ops_same0 (c : Dev Cert.KernelIdeal.nD) : Cert.Kernel.Gen.hostOps0 (F := F) c = Cert.KernelIdeal.Gen.hostOps0 (F := F) c := rfl
theorem ops_same1 : Cert.Kernel.Gen.hostOps0_1 (F := F) = Cert.KernelIdeal.Gen.hostOps0_1 (F := F) := rfl
theorem ops_same2 : Cert.Kernel.Gen.hostOps0_2 (F := F) = Cert.KernelIdeal.Gen.hostOps0_2 (F := F) := rfl
theorem ops_same3 : Cert.Kernel.Gen.hostOps0_3 (F := F) = Cert.KernelIdeal.Gen.hostOps0_3 (F := F) := rfl
theorem ops_same4 : Cert.Kernel.Gen.hostOps0_4 (F := F) = Cert.KernelIdeal.Gen.hostOps0_4 (F := F) := rfl

/-- and so the main programs. -/
theorem main_same : Cert.Kernel.main (F := F) = Cert.KernelIdeal.main (F := F) := funext fun c => by
  rw [Cert.Kernel.Gen.main_chain c]
  refine Eq.trans ?_ (Cert.KernelIdeal.Gen.main_chain (F := F) c).symm
  rw [ops_same0, ops_same1, ops_same2, ops_same3, ops_same4]

end Cert.Proof

end
-- ==== Proof.Frames.lean ====
module

public import proofs.«01_k».proof.Defs
public import proofs.«01_k».proof.Proof.Run
public import proofs.«01_k».proof.Proof.Same
public import proofs.«01_k».proof.Proof.Gen.Kernel
public import proofs.«01_k».proof.Proof.Gen.ReferenceIdeal.Run

/-! The three programs run, keep their operands and leave every counter at zero. -/

@[expose] public section

noncomputable section

namespace Cert.Proof

open Idealize.ShloMosaic Idealize.SL.Sem

/-- The kernel, at exact values. -/
theorem frame_kernelIdeal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The kernel, bit for bit: its text is the idealized kernel's. -/
theorem frame_kernel : Cert.quiescent_Kernel := fun m ρ _ => by
  have run : ∀ d, d = Cert.KernelIdeal.defs (F := Bits) → ∀ p, p = Cert.KernelIdeal.main (F := Bits) →
      θ_run d (onTc (τ := Cert.KernelIdeal.τ) p) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
    rintro _ rfl _ rfl
    exact (θ_run Cert.KernelIdeal.defs _ _).mono (fun _ h => ⟨fun c => (h.1 c).2, h.2⟩) (Cert.KernelIdeal.Ring.run_main (F := Bits) m ρ)
  exact run _ defs_same _ main_same

/-- The reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Partial.lean ====
module

public import proofs.«01_k».proof.Proof.Settle
public import Idealize.ShloMosaic.Lib.MatmulPlain
public import Idealize.ShloMosaic.Lib.Pipeline.Value

/-! What one device's product of a row block contributes, at exact values: an entry is a sum of 256 products, and a hop adds it
    to what arrived. -/

@[expose] public section

noncomputable section

namespace Cert.KernelIdeal.Ring

open Cert.KernelIdeal.Gen
open Idealize.ShloMosaic
open Idealize.ShloMosaic.ValueIdx
open scoped BigOperators

variable (X : Vec Ideal S4096x256 .f32) (Y : Vec Ideal S256x8192 .f32)

/-- Row `r` of row block `k`, as a row of the whole. -/
def rowAt (k : ℕ) (hk : k < 16) (r : Fin 256) : Fin 4096 := ⟨k * 256 + r.val, by have := r.isLt; omega⟩

/-- The entry of the device's product in row `i` and column `n`. -/
def entry (i : Fin 4096) (n : Fin 8192) : EReal := ∑ j : Fin 256, (X (ix2 i j) : EReal) * (Y (ix2 j n) : EReal)

theorem rowsOf_apply (k : ℕ) (hk : k < 16) (r j : Fin 256) : rowsOf X k hk (ix2 r j) = X (ix2 (rowAt k hk r) j) := by
  unfold rowsOf
  refine congrArg X (funext fun a => Fin.ext ?_)
  rw [Rect.emb_apply]
  match a with
  | ⟨0, _⟩ => show k * 256 + 1 * r.val = k * 256 + r.val; omega
  | ⟨1, _⟩ => show 0 + 1 * j.val = j.val; omega

/-- The product of a row block is that block of the product. -/
theorem block_product (k : ℕ) (hk : k < 16) (r : Fin 256) (n : Fin 8192) :
    (k0_pay1 (rowsOf X k hk) Y (ix2 r n) : EReal) = entry X Y (rowAt k hk r) n := by
  unfold k0_pay1 entry
  rw [shapeCast_self, shapeCast_self]
  refine (Ideal.matmul_plain_apply (M := 256) (K := 256) (N := 8192) none (rowsOf X k hk) Y (constant S256x8192 .f32 0x00000000#32) r n).trans ?_
  rw [show (constant (F := Ideal) S256x8192 .f32 0x00000000#32 (ix2 r n) : EReal) = 0 from Ideal.ofBits_zero_f32, zero_add]
  exact Finset.sum_congr rfl fun j _ => by rw [rowsOf_apply]

/-- Stored into a slot it keeps its entries. -/
theorem slot_entry (v : FVec Ideal S256x8192 .f32) (r : Fin 256) (n : Fin 8192) : k0_pay2 v (ix3 0 r n) = v (ix2 r n) := by
  unfold k0_pay2
  refine (shapeCast_addUnit_apply ![256, 8192] v shapeCasts_S256x8192_S1x256x8192 (ix3 0 r n)).trans (congrArg v (funext fun a => ?_))
  match a with
  | ⟨0, _⟩ => rfl
  | ⟨1, _⟩ => rfl

/-- A hop adds the device's product of the row block to what arrived. -/
theorem added (v : Vec Ideal S1x256x8192 .f32) (k : ℕ) (hk : k < 16) (r : Fin 256) (n : Fin 8192) :
    (k0_pay3 v (rowsOf X k hk) Y (ix3 0 r n) : EReal) = (v (ix3 0 r n) : EReal) + entry X Y (rowAt k hk r) n := by
  rw [← block_product]
  refine (slot_entry (addf (shapeCast S256x8192 v shapeCasts_S1x256x8192_S256x8192) (k0_pay1 (rowsOf X k hk) Y)) r n).trans ?_
  refine congrArg (fun z : EReal => z + k0_pay1 (rowsOf X k hk) Y (ix2 r n)) ?_
  refine (shapeCast_dropUnit_apply ![256, 8192] v shapeCasts_S1x256x8192_S256x8192 (ix2 r n)).trans (congrArg v (funext fun a => ?_))
  match a with
  | ⟨0, _⟩ => rfl
  | ⟨1, _⟩ => rfl
  | ⟨2, _⟩ => rfl

end Cert.KernelIdeal.Ring

end
-- ==== Proof.RingSum.lean ====
module

public import proofs.«01_k».proof.Proof.Hops
public import proofs.«01_k».proof.Proof.Partial

/-! What the slots carry, at exact values: after hop `h` of the reduce-scatter the sum of `h + 1` devices' contributions to one row
    block, after the last the whole sum, which the all-gather only moves. -/

@[expose] public section

noncomputable section

namespace Cert.KernelIdeal.Ring

open Cert.KernelIdeal.Gen
open Idealize.ShloMosaic
open Idealize.ShloMosaic.ValueIdx
open scoped BigOperators

variable (X : Dev nD → Vec Ideal S4096x256 .f32) (Y : Dev nD → Vec Ideal S256x8192 .f32)

/-- The device `j` places before `c` on the ring. -/
def back (c : Dev nD) (j : ℕ) : Dev nD := ⟨(c.val + 16 * (j / 16 + 1) - j) % 16, Nat.mod_lt _ (by decide)⟩

theorem back_zero (c : Dev nD) : back c 0 = c := Fin.ext (by have : c.val < 16 := c.isLt; show (c.val + 16 * (0 / 16 + 1) - 0) % 16 = c.val; omega)
theorem back_lft (c : Dev nD) (j : ℕ) : back (lft c) j = back c (j + 1) := Fin.ext (by
  have : c.val < 16 := c.isLt
  show ((c.val + 15) % 16 + 16 * (j / 16 + 1) - j) % 16 = (c.val + 16 * ((j + 1) / 16 + 1) - (j + 1)) % 16
  omega)

/-- The row block that the slot of device `c` is about when hop `h` of the reduce-scatter starts. -/
def about (c : Dev nD) (h : ℕ) : ℕ := (c.val + 31 - h) % 16
theorem about_lt (c : Dev nD) (h : ℕ) : about c h < 16 := Nat.mod_lt _ (by decide)

theorem about_zero (c : Dev nD) : chunk0 c = about c 0 := by unfold chunk0 about; omega
theorem about_next (c : Dev nD) (h : ℕ) (hh : h < 15) : chunk c h = about c (h + 1) := by
  have : c.val < 16 := c.isLt
  unfold chunk about; omega
theorem about_lft (c : Dev nD) (h : ℕ) (hh : h < 15) : about (lft c) h = about c (h + 1) := by
  have : c.val < 16 := c.isLt
  unfold about lft; dsimp only; omega
theorem about_last (c : Dev nD) : about c 15 = c.val := by
  have : c.val < 16 := c.isLt
  unfold about; omega

/-- A row depends only on the number of its row block. -/
theorem rowAt_congr {k k' : ℕ} (e : k = k') (hk : k < 16) (hk' : k' < 16) (r : Fin 256) : rowAt k hk r = rowAt k' hk' r := by
  subst e; rfl

theorem vals_zero (c : Dev nD) : vals X Y 0 c = k0_pay2 (k0_pay1 (rowsOf (X c) (chunk0 c) (chunk0_lt c)) (Y c)) := rfl

/-- A hop of the reduce-scatter, entry by entry. -/
theorem vals_hop (c : Dev nD) (h : ℕ) (hh : h < 15) (r : Fin 256) (n : Fin 8192) :
    (vals X Y (h + 1) c (ix3 0 r n) : EReal)
      = (vals X Y h (lft c) (ix3 0 r n) : EReal) + entry (X c) (Y c) (rowAt (about c (h + 1)) (about_lt c (h + 1)) r) n := by
  rw [vals_rs X Y c h hh, ← rowAt_congr (about_next c h hh) (chunk_lt c h) (about_lt c (h + 1)) r]
  exact added (X c) (Y c) (vals X Y h (lft c)) (chunk c h) (chunk_lt c h) r n

/-- During the reduce-scatter: the contributions of the devices passed so far. -/
theorem partial_sum (r : Fin 256) (n : Fin 8192) (h : ℕ) : ∀ (_ : h ≤ 15) (c : Dev nD),
    (vals X Y h c (ix3 0 r n) : EReal) = ∑ j ∈ Finset.range (h + 1), entry (X (back c j)) (Y (back c j)) (rowAt (about c h) (about_lt c h) r) n := by
  induction h with
  | zero =>
    intro _ c
    rw [Finset.sum_range_one, back_zero, vals_zero, ← rowAt_congr (about_zero c) (chunk0_lt c) (about_lt c 0) r, ← block_product]
    exact slot_entry _ r n
  | succ h ih =>
    intro hh c
    rw [vals_hop X Y c h (by omega), ih (by omega) (lft c), Finset.sum_range_succ' _ (h + 1), back_zero,
      rowAt_congr (about_lft c h (by omega)) (about_lt (lft c) h) (about_lt c (h + 1)) r]
    refine congrArg (· + entry (X c) (Y c) (rowAt (about c (h + 1)) (about_lt c (h + 1)) r) n) (Finset.sum_congr rfl fun j _ => ?_)
    rw [back_lft]

/-- Going back over the whole ring meets every device once. -/
theorem whole_ring (c : Dev nD) (f : Dev nD → EReal) : ∑ j ∈ Finset.range 16, f (back c j) = ∑ d : Dev nD, f d := by
  rw [Finset.sum_range]
  exact Fintype.sum_bijective (fun j : Fin 16 => back c j.val) ((by decide : ∀ c : Dev nD, Function.Bijective fun j : Fin 16 => back c j.val) c) _ _ fun _ => rfl

/-- After the reduce-scatter device `c` holds the whole sum for its row block. -/
theorem reduced (c : Dev nD) (r : Fin 256) (n : Fin 8192) :
    (vals X Y 15 c (ix3 0 r n) : EReal) = ∑ d : Dev nD, entry (X d) (Y d) (rowAt c.val c.isLt r) n := by
  rw [partial_sum X Y r n 15 le_rfl c, whole_ring c fun d => entry (X d) (Y d) (rowAt (about c 15) (about_lt c 15) r) n]
  simp only [about_last]

/-- The all-gather moves these along the ring. -/
theorem gathered : ∀ (t : ℕ) (c : Dev nD), vals X Y (15 + t) c = vals X Y 15 (back c t)
  | 0, c => by rw [back_zero]
  | t + 1, c => by
    rw [show 15 + (t + 1) = (15 + t) + 1 from rfl, vals_ag X Y c (15 + t) (by omega), gathered t (lft c), back_lft]

/-- The copies made of a slot go to the row block that the slot is about. -/
theorem back_turn (c : Dev nD) (k : ℕ) (hk : k < 16) : back c (turnOf c k) = ⟨k, hk⟩ := Fin.ext (by
  have : c.val < 16 := c.isLt
  show (c.val + 16 * ((c.val + 16 - k) % 16 / 16 + 1) - (c.val + 16 - k) % 16) % 16 = k
  omega)

/-- Every device's result: in row `i` and column `n`, the sum over all devices of their contributions. -/
theorem result_entry (c : Dev nD) (i : Fin 4096) (n : Fin 8192) :
    (outFin (vals X Y) c (ix2 i n) : EReal) = ∑ d : Dev nD, entry (X d) (Y d) i n := by
  have hk : i.val / 256 < 16 := by have := i.isLt; omega
  have e : outFin (vals X Y) c (ix2 i n) = vals X Y (15 + turnOf c (i.val / 256)) c (ix3 0 ⟨i.val % 256, Nat.mod_lt _ (by decide)⟩ n) := by
    unfold outFin
    refine congrArg (vals X Y _ c) (funext fun a => ?_)
    match a with
    | ⟨0, _⟩ => rfl
    | ⟨1, _⟩ => rfl
    | ⟨2, _⟩ => rfl
  rw [e, gathered, back_turn c _ hk, reduced]
  have e2 : rowAt (i.val / 256) hk ⟨i.val % 256, Nat.mod_lt _ (by decide)⟩ = i := Fin.ext (by
    show i.val / 256 * 256 + i.val % 256 = i.val
    omega)
  rw [e2]

end Cert.KernelIdeal.Ring

end
-- ==== Proof.Equation.lean ====
module

public import proofs.«01_k».proof.Proof.RingSum
public import proofs.«01_k».proof.Proof.Gen.ReferenceIdeal.Run
public import Idealize.ShloMosaic.Lib.StackMember
public import Idealize.ShloMosaic.Lib.Layout

/-! The ring's sum over devices of sums of 256 products is the reference's sum of 4096 products. -/

@[expose] public section

noncomputable section

namespace Cert.KernelIdeal.Ring

open Cert.KernelIdeal.Gen
open Idealize.ShloMosaic
open Idealize.ShloMosaic.ValueIdx
open scoped BigOperators

variable (A : FVec Ideal ⟨2, ![4096, 4096]⟩ .f32) (B : FVec Ideal ⟨2, ![4096, 8192]⟩ .f32)

/-- A sum over 4096 positions, block by block. -/
theorem sum_blocks (f : Fin 4096 → EReal) : ∑ k : Fin 4096, f k = ∑ d : Fin 16, ∑ j : Fin 256, f ⟨d.val * 256 + j.val, by have : d.val < 16 := d.isLt; have := j.isLt; omega⟩ := by
  rw [← Equiv.sum_comp (finProdFinEquiv : Fin 16 × Fin 256 ≃ Fin 4096) f, Fintype.sum_prod_type]
  refine Finset.sum_congr rfl fun d _ => Finset.sum_congr rfl fun j _ => congrArg f (Fin.ext ?_)
  show j.val + 256 * d.val = d.val * 256 + j.val
  omega

/-- Device `d`'s block of the columns of `x` and of the rows of `w`, entry by entry. -/
theorem lhs_block (d : Dev nD) (i : Fin 4096) (j : Fin 256) :
    Layout.block ⟨2, ![4096, 256]⟩ ⟨2, ![4096, 4096]⟩ 1 16 d A (by decide) (ix2 i j) = A (ix2 i ⟨d.val * 256 + j.val, by have : d.val < 16 := d.isLt; have := j.isLt; omega⟩) :=
  (Layout.block_apply d A _ _).trans (congrArg A (funext fun a => Fin.ext (by
    match a with
    | ⟨0, _⟩ => rfl
    | ⟨1, _⟩ => rfl)))
theorem rhs_block (d : Dev nD) (j : Fin 256) (n : Fin 8192) :
    Layout.block ⟨2, ![256, 8192]⟩ ⟨2, ![4096, 8192]⟩ 0 16 d B (by decide) (ix2 j n) = B (ix2 ⟨d.val * 256 + j.val, by have : d.val < 16 := d.isLt; have := j.isLt; omega⟩ n) :=
  (Layout.block_apply d B _ _).trans (congrArg B (funext fun a => Fin.ext (by
    match a with
    | ⟨0, _⟩ => rfl
    | ⟨1, _⟩ => rfl)))

/-- What every device ends with is the reference's product. -/
theorem ring_product (X : Dev nD → Vec Ideal S4096x256 .f32) (Y : Dev nD → Vec Ideal S256x8192 .f32)
    (hX : ∀ d : Dev nD, X d = Layout.block ⟨2, ![4096, 256]⟩ ⟨2, ![4096, 4096]⟩ 1 16 d A (by decide))
    (hY : ∀ d : Dev nD, Y d = Layout.block ⟨2, ![256, 8192]⟩ ⟨2, ![4096, 8192]⟩ 0 16 d B (by decide)) (c : Dev nD) :
    outFin (vals X Y) c = Host.dotGeneral Cert.ReferenceIdeal.dot_S4096x4096_S4096x8192_S4096x8192_1_0_0_1_n_n none A B := by
  funext p
  obtain ⟨i, n, rfl⟩ : ∃ (i : Fin 4096) (n : Fin 8192), p = ix2 i n := ⟨p 0, p 1, eq_ix2 p⟩
  refine (result_entry X Y c i n).trans (Eq.trans (b := (∑ k : Fin 4096, (A (ix2 i k) : EReal) * (B (ix2 k n) : EReal) : EReal)) ?_ (StackMember.dotGeneral_plain_apply (m := 4096) (k := 4096) (n := 8192) none A B i n).symm)
  refine Eq.trans ?_ (sum_blocks fun k => (A (ix2 i k) : EReal) * (B (ix2 k n) : EReal)).symm
  refine Finset.sum_congr rfl fun d _ => Finset.sum_congr rfl fun j _ => ?_
  rw [hX d, hY d, lhs_block, rhs_block]

end Cert.KernelIdeal.Ring

end
-- ==== Proof.Algebra.lean ====
module

public import proofs.«01_k».proof.Defs
public import proofs.«01_k».proof.Proof.Run
public import proofs.«01_k».proof.Proof.Equation
public import proofs.«01_k».proof.Proof.Gen.ReferenceIdeal.Run

/-! The sixteen devices and the reference end with the same product. -/

@[expose] public section

noncomputable section

namespace Cert.Proof

open Idealize.ShloMosaic Idealize.SL.Sem

/-- From operands cut into sixteen parts, every device ends holding the reference's whole product, and no operand changes. -/
theorem algebraic : Cert.algebraic_KernelIdeal_ReferenceIdeal := by
  intro m ρ m' ρ' _ hagree
  refine ⟨Host.dotGeneral (F := Ideal) (φ₁ := .f32) (φ₂ := .f32) Cert.ReferenceIdeal.dot_S4096x4096_S4096x8192_S4096x8192_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (Cert.KernelIdeal.Ring.run_main (F := Ideal) m ρ)
    exact Cert.KernelIdeal.Ring.ring_product _ _ (Cert.KernelIdeal.Ring.lhs₀ m) (Cert.KernelIdeal.Ring.rhs₀ m)
      (fun d => (hagree d).1) (fun d => (hagree d).2) c
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
